-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4x200x200 : Shape := ⟨4, ![2, 4, 200, 200]⟩
abbrev S2x200x200 : Shape := ⟨3, ![2, 200, 200]⟩
abbrev S2x6x56x120 : Shape := ⟨4, ![2, 6, 56, 120]⟩
abbrev S8x625x40320 : Shape := ⟨3, ![8, 625, 40320]⟩
abbrev S8x625x2520 : Shape := ⟨3, ![8, 625, 2520]⟩
abbrev S2x1x200x200 : Shape := ⟨4, ![2, 1, 200, 200]⟩
abbrev S_ : Shape := ⟨0, ![]⟩

class Facts : Prop where
  slices_S2x4x200x200_S2x1x200x200_0_0_0_0 : S2x4x200x200.Slices ![0, 0, 0, 0] S2x1x200x200
  shapeCasts_S2x1x200x200_S2x200x200 : S2x1x200x200.ShapeCasts S2x200x200
  bcast_S_S2x200x200 : S_.BroadcastsInDim S2x200x200 (![] : Fin 0 → Fin S2x200x200.rank)
  reducesTo_S2x200x200_S_d0_1_2 : S2x200x200.ReducesTo [0, 1, 2] S_
  h_S_ : 0 < S_.numel
  bcast_S_S2x6x56x120 : S_.BroadcastsInDim S2x6x56x120 (![] : Fin 0 → Fin S2x6x56x120.rank)
  reducesTo_S2x6x56x120_S_d0_1_2_3 : S2x6x56x120.ReducesTo [0, 1, 2, 3] S_
  bcast_S_S8x625x40320 : S_.BroadcastsInDim S8x625x40320 (![] : Fin 0 → Fin S8x625x40320.rank)
  reducesTo_S8x625x40320_S_d0_1_2 : S8x625x40320.ReducesTo [0, 1, 2] S_

variable [Facts]

def fn {F : FTy → Type} [FloatOps F] (main_arg0 : FVec F S2x4x200x200 .f32) (main_arg1 : FVec F S2x4x200x200 .f32) (main_arg2 : FVec F S2x200x200 .f32) (main_arg3 : FVec F S2x6x56x120 .f32) (main_arg4 : FVec F S8x625x40320 .f32) (main_arg5 : FVec F S8x625x2520 .f32) : IVec S_ 1 :=
  let main_v0 : FVec F S2x1x200x200 .f32 := (extractStridedSlice S2x1x200x200 ![0, 0, 0, 0] · slices_S2x4x200x200_S2x1x200x200_0_0_0_0) main_arg1
  let main_v1 : FVec F S2x200x200 .f32 := shapeCast S2x200x200 main_v0 shapeCasts_S2x1x200x200_S2x200x200
  let main_v2 : FVec F S2x200x200 .f32 := Host.absf main_v1
  let main_cst : FVec F S_ .f32 := constant S_ .f32 0x7F800000#32
  let main_v3 : FVec F S2x200x200 .f32 := broadcastInDim S2x200x200 ![] bcast_S_S2x200x200 main_cst
  let main_v4 : IVec S2x200x200 1 := cmpf .olt main_v2 main_v3
  let main_c : IVec S_ 1 := constantI S_ 1 1#1
  let main_v5 : IVec S_ 1 := (fun x v => Host.reduce IntOp.andi x v reducesTo_S2x200x200_S_d0_1_2 h_S_) main_v4 main_c
  let main_v6 : FVec F S2x6x56x120 .f32 := Host.absf main_arg3
  let main_cst_0 : FVec F S_ .f32 := constant S_ .f32 0x7F800000#32
  let main_v7 : FVec F S2x6x56x120 .f32 := broadcastInDim S2x6x56x120 ![] bcast_S_S2x6x56x120 main_cst_0
  let main_v8 : IVec S2x6x56x120 1 := cmpf .olt main_v6 main_v7
  let main_c_1 : IVec S_ 1 := constantI S_ 1 1#1
  let main_v9 : IVec S_ 1 := (fun x v => Host.reduce IntOp.andi x v reducesTo_S2x6x56x120_S_d0_1_2_3 h_S_) main_v8 main_c_1
  let main_v10 : IVec S_ 1 := andi main_v5 main_v9
  let main_v11 : FVec F S8x625x40320 .f32 := Host.absf main_arg4
  let main_cst_2 : FVec F S_ .f32 := constant S_ .f32 0x7F800000#32
  let main_v12 : FVec F S8x625x40320 .f32 := broadcastInDim S8x625x40320 ![] bcast_S_S8x625x40320 main_cst_2
  let main_v13 : IVec S8x625x40320 1 := cmpf .olt main_v11 main_v12
  let main_c_3 : IVec S_ 1 := constantI S_ 1 1#1
  let main_v14 : IVec S_ 1 := (fun x v => Host.reduce IntOp.andi x v reducesTo_S8x625x40320_S_d0_1_2 h_S_) main_v13 main_c_3
  let main_v15 : IVec S_ 1 := andi main_v10 main_v14
  main_v15
-- ==== Kernel.lean ====
abbrev S2x4x200x200 : Shape := ⟨4, ![2, 4, 200, 200]⟩
abbrev S2x200x200 : Shape := ⟨3, ![2, 200, 200]⟩
abbrev S2x6x56x120 : Shape := ⟨4, ![2, 6, 56, 120]⟩
abbrev S8x625x40320 : Shape := ⟨3, ![8, 625, 40320]⟩
abbrev S8x625x2520 : Shape := ⟨3, ![8, 625, 2520]⟩
abbrev S625x8x40320 : Shape := ⟨3, ![625, 8, 40320]⟩
abbrev S5000x40320 : Shape := ⟨2, ![5000, 40320]⟩
abbrev S2x1x40320 : Shape := ⟨3, ![2, 1, 40320]⟩
abbrev S126x2x5 : Shape := ⟨3, ![126, 2, 5]⟩
abbrev S40x40320 : Shape := ⟨2, ![40, 40320]⟩
abbrev S3x2x5 : Shape := ⟨3, ![3, 2, 5]⟩
abbrev S16x40 : Shape := ⟨2, ![16, 40]⟩
abbrev S8x40320 : Shape := ⟨2, ![8, 40320]⟩
abbrev S16x40320 : Shape := ⟨2, ![16, 40320]⟩
abbrev S8 : Shape := ⟨1, ![8]⟩
abbrev S8x1 : Shape := ⟨2, ![8, 1]⟩
abbrev S1x1x40320 : Shape := ⟨3, ![1, 1, 40320]⟩
abbrev S1x40320 : Shape := ⟨2, ![1, 40320]⟩
abbrev S5 : Shape := ⟨1, ![5]⟩
abbrev S1x1x5 : Shape := ⟨3, ![1, 1, 5]⟩
abbrev S125x2x5 : Shape := ⟨3, ![125, 2, 5]⟩
abbrev S2x125x5 : Shape := ⟨3, ![2, 125, 5]⟩
abbrev S2x25x25 : Shape := ⟨3, ![2, 25, 25]⟩
abbrev S2x1x1 : Shape := ⟨3, ![2, 1, 1]⟩
abbrev S1x25x25 : Shape := ⟨3, ![1, 25, 25]⟩
abbrev S1x1x200x200 : Shape := ⟨4, ![1, 1, 200, 200]⟩
abbrev S1x1x1 : Shape := ⟨3, ![1, 1, 1]⟩
abbrev S25x25 : Shape := ⟨2, ![25, 25]⟩
abbrev S200x200 : Shape := ⟨2, ![200, 200]⟩
abbrev S25x200 : Shape := ⟨2, ![25, 200]⟩
abbrev S1x25x200 : Shape := ⟨3, ![1, 25, 200]⟩
abbrev S1 : Shape := ⟨1, ![1]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S2x4x200x200, .f32⟩
  | .hbm, ⟨1, _⟩ => ⟨S2x4x200x200, .f32⟩
  | .hbm, ⟨2, _⟩ => ⟨S2x200x200, .f32⟩
  | .hbm, ⟨3, _⟩ => ⟨S2x6x56x120, .f32⟩
  | .hbm, ⟨4, _⟩ => ⟨S8x625x40320, .f32⟩
  | .hbm, ⟨5, _⟩ => ⟨S8x625x2520, .f32⟩
  | .hbm, ⟨6, _⟩ => ⟨S625x8x40320, .f32⟩
  | .hbm, ⟨7, _⟩ => ⟨S5000x40320, .f32⟩
  | .hbm, ⟨8, _⟩ => ⟨S2x1x40320, .f32⟩
  | .hbm, ⟨9, _⟩ => ⟨S126x2x5, .f32⟩
  | .hbm, ⟨10, _⟩ => ⟨S125x2x5, .f32⟩
  | .hbm, ⟨11, _⟩ => ⟨S2x125x5, .f32⟩
  | .hbm, ⟨12, _⟩ => ⟨S2x25x25, .f32⟩
  | .hbm, ⟨13, _⟩ => ⟨S2x1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S40x40320, .f32⟩
  | .local _ .vmem, ⟨1, _⟩ => ⟨S40x40320, .f32⟩
  | .local _ .vmem, ⟨2, _⟩ => ⟨S40x40320, .f32⟩
  | .local _ .vmem, ⟨3, _⟩ => ⟨S40x40320, .f32⟩
  | .local _ .vmem, ⟨4, _⟩ => ⟨S40x40320, .f32⟩
  | .local _ .vmem, ⟨5, _⟩ => ⟨S40x40320, .f32⟩
  | .local _ .vmem, ⟨6, _⟩ => ⟨S2x1x40320, .f32⟩
  | .local _ .vmem, ⟨7, _⟩ => ⟨S3x2x5, .f32⟩
  | .local _ .vmem, ⟨8, _⟩ => ⟨S3x2x5, .f32⟩
  | .local _ .vmem, ⟨9, _⟩ => ⟨S1x25x25, .f32⟩
  | .local _ .vmem, ⟨10, _⟩ => ⟨S1x25x25, .f32⟩
  | .local _ .vmem, ⟨11, _⟩ => ⟨S1x1x200x200, .f32⟩
  | .local _ .vmem, ⟨12, _⟩ => ⟨S1x1x200x200, .f32⟩
  | .local _ .vmem, ⟨13, _⟩ => ⟨S1x1x1, .f32⟩
  | .local _ .vmem, ⟨14, _⟩ => ⟨S1x1x1, .f32⟩
  | _, _ => ⟨S2x4x200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 21], ![false, false]⟩

def cc0_transform_0 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c41_i32 : BitVec 32 := 41#32
  let v2 : BitVec 32 := Scalar.minsi v1 c41_i32
  let c3_i32 : BitVec 32 := 3#32
  let v3 : BitVec 32 := Scalar.muli c3_i32 v2
  let c0_i32 : BitVec 32 := 0#32
  let v4 : BitVec 32 := Scalar.addi v3 c0_i32
  let c124_i32 : BitVec 32 := 124#32
  let v5 : BitVec 32 := Scalar.minsi v4 c124_i32
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c41_i32 : BitVec 32 := 41#32
  let v2 : BitVec 32 := Scalar.minsi v1 c41_i32
  let c3_i32 : BitVec 32 := 3#32
  let v3 : BitVec 32 := Scalar.muli c3_i32 v2
  let c1_i32 : BitVec 32 := 1#32
  let v4 : BitVec 32 := Scalar.addi v3 c1_i32
  let c124_i32 : BitVec 32 := 124#32
  let v5 : BitVec 32 := Scalar.minsi v4 c124_i32
  let c0_i32 : BitVec 32 := 0#32
  let c0_i32_0 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c41_i32 : BitVec 32 := 41#32
  let v2 : BitVec 32 := Scalar.minsi v1 c41_i32
  let c3_i32 : BitVec 32 := 3#32
  let v3 : BitVec 32 := Scalar.muli c3_i32 v2
  let c2_i32 : BitVec 32 := 2#32
  let v4 : BitVec 32 := Scalar.addi v3 c2_i32
  let c124_i32 : BitVec 32 := 124#32
  let v5 : BitVec 32 := Scalar.minsi v4 c124_i32
  let c0_i32 : BitVec 32 := 0#32
  let c0_i32_0 : BitVec 32 := 0#32
  ![v5.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c21_i32 : BitVec 32 := 21#32
  let v0 : BitVec 32 := Scalar.muli arg0 c21_i32
  let v1 : BitVec 32 := Scalar.addi v0 arg1
  let c41_i32 : BitVec 32 := 41#32
  let v2 : BitVec 32 := Scalar.minsi v1 c41_i32
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S40x40320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S40x40320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S40x40320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x1x40320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3x2x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x25x25 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x200x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2x4x200x200 : Shape := ⟨4, ![2, 4, 200, 200]⟩
abbrev S2x200x200 : Shape := ⟨3, ![2, 200, 200]⟩
abbrev S2x6x56x120 : Shape := ⟨4, ![2, 6, 56, 120]⟩
abbrev S8x625x40320 : Shape := ⟨3, ![8, 625, 40320]⟩
abbrev S8x625x2520 : Shape := ⟨3, ![8, 625, 2520]⟩
abbrev S2x4x25x25x6x56x120 : Shape := ⟨7, ![2, 4, 25, 25, 6, 56, 120]⟩
abbrev S_ : Shape := ⟨0, ![]⟩
abbrev S2x25x25x6x56x120 : Shape := ⟨6, ![2, 25, 25, 6, 56, 120]⟩
abbrev S2x25x25x40320 : Shape := ⟨4, ![2, 25, 25, 40320]⟩
abbrev S2x25x25 : Shape := ⟨3, ![2, 25, 25]⟩
abbrev S2 : Shape := ⟨1, ![2]⟩
abbrev S2x1x1 : Shape := ⟨3, ![2, 1, 1]⟩
abbrev S2x25x25x1 : Shape := ⟨4, ![2, 25, 25, 1]⟩
abbrev S2x25x25x4 : Shape := ⟨4, ![2, 25, 25, 4]⟩
abbrev S2x25x8x25 : Shape := ⟨4, ![2, 25, 8, 25]⟩
abbrev S2x200x25 : Shape := ⟨3, ![2, 200, 25]⟩
abbrev S2x200x25x8 : Shape := ⟨4, ![2, 200, 25, 8]⟩
abbrev S2x1x200x200 : Shape := ⟨4, ![2, 1, 200, 200]⟩

abbrev nBuf : Space → Nat
  | .hbm => 163
  | .vmem => 0
  | .smem => 0
  | _ => 0

abbrev hbmTy0_0 (i : Nat) : BufTy := match i % 128 with
  | 0 => ⟨S2x4x200x200, .f32⟩
  | 1 => ⟨S2x4x200x200, .f32⟩
  | 2 => ⟨S2x200x200, .f32⟩
  | 3 => ⟨S2x6x56x120, .f32⟩
  | 4 => ⟨S8x625x40320, .f32⟩
  | 5 => ⟨S8x625x2520, .f32⟩
  | 6 => ⟨S2x4x25x25x6x56x120, .f32⟩
  | 7 => ⟨S_, .f32⟩
  | 8 => ⟨S2x25x25x6x56x120, .f32⟩
  | 9 => ⟨S_, .f32⟩
  | 10 => ⟨S2x25x25x6x56x120, .f32⟩
  | 11 => ⟨S2x25x25x6x56x120, .f32⟩
  | 12 => ⟨S2x25x25x40320, .f32⟩
  | 13 => ⟨S2x25x25x40320, .i32⟩
  | 14 => ⟨S_, .f32⟩
  | 15 => ⟨S_, .i32⟩
  | 16 => ⟨S2x25x25, .f32⟩
  | 17 => ⟨S2x25x25, .i32⟩
  | 18 => ⟨S_, .i32⟩
  | 19 => ⟨S_, .i32⟩
  | 20 => ⟨S2x25x25, .i32⟩
  | 21 => ⟨S2x25x25, .i32⟩
  | 22 => ⟨S2x25x25, .i32⟩
  | 23 => ⟨S_, .i32⟩
  | 24 => ⟨S2x25x25, .i32⟩
  | 25 => ⟨S2x25x25, .i1⟩
  | 26 => ⟨S2x25x25, .i32⟩
  | 27 => ⟨S2x25x25, .i32⟩
  | 28 => ⟨S_, .i32⟩
  | 29 => ⟨S2x25x25, .i32⟩
  | 30 => ⟨S2x25x25, .i1⟩
  | 31 => ⟨S2x25x25, .i1⟩
  | 32 => ⟨S_, .i32⟩
  | 33 => ⟨S2x25x25, .i32⟩
  | 34 => ⟨S2x25x25, .i32⟩
  | 35 => ⟨S2x25x25, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S2x25x25, .i32⟩
  | 43 => ⟨S2x25x25, .i32⟩
  | 44 => ⟨S_, .i32⟩
  | 45 => ⟨S2x25x25, .i32⟩
  | 46 => ⟨S2x25x25, .i1⟩
  | 47 => ⟨S_, .i32⟩
  | 48 => ⟨S2x25x25, .i32⟩
  | 49 => ⟨S2x25x25, .i1⟩
  | 50 => ⟨S_, .i32⟩
  | 51 => ⟨S_, .i1⟩
  | 52 => ⟨S2x25x25, .i1⟩
  | 53 => ⟨S2x25x25, .i1⟩
  | 54 => ⟨S2x25x25, .i1⟩
  | 55 => ⟨S2x25x25, .i32⟩
  | 56 => ⟨S2x25x25, .i32⟩
  | 57 => ⟨S2x25x25, .i32⟩
  | 58 => ⟨S_, .i32⟩
  | 59 => ⟨S_, .i32⟩
  | 60 => ⟨S2x25x25, .i32⟩
  | 61 => ⟨S2x25x25, .i32⟩
  | 62 => ⟨S2x25x25, .i32⟩
  | 63 => ⟨S_, .i32⟩
  | 64 => ⟨S2x25x25, .i32⟩
  | 65 => ⟨S2x25x25, .i1⟩
  | 66 => ⟨S2x25x25, .i32⟩
  | 67 => ⟨S2x25x25, .i32⟩
  | 68 => ⟨S_, .i32⟩
  | 69 => ⟨S2x25x25, .i32⟩
  | 70 => ⟨S2x25x25, .i1⟩
  | 71 => ⟨S2x25x25, .i1⟩
  | 72 => ⟨S_, .i32⟩
  | 73 => ⟨S2x25x25, .i32⟩
  | 74 => ⟨S2x25x25, .i32⟩
  | 75 => ⟨S2x25x25, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S2x25x25, .i32⟩
  | 83 => ⟨S2x25x25, .i32⟩
  | 84 => ⟨S_, .i32⟩
  | 85 => ⟨S2x25x25, .i32⟩
  | 86 => ⟨S2x25x25, .i1⟩
  | 87 => ⟨S_, .i32⟩
  | 88 => ⟨S2x25x25, .i32⟩
  | 89 => ⟨S2x25x25, .i1⟩
  | 90 => ⟨S_, .i32⟩
  | 91 => ⟨S_, .i1⟩
  | 92 => ⟨S2x25x25, .i1⟩
  | 93 => ⟨S2x25x25, .i1⟩
  | 94 => ⟨S2x25x25, .i1⟩
  | 95 => ⟨S2x25x25, .i32⟩
  | 96 => ⟨S2x25x25, .i32⟩
  | 97 => ⟨S2x25x25, .i32⟩
  | 98 => ⟨S2, .i32⟩
  | 99 => ⟨S2x1x1, .i32⟩
  | 100 => ⟨S_, .i32⟩
  | 101 => ⟨S2x1x1, .i32⟩
  | 102 => ⟨S2x1x1, .i1⟩
  | 103 => ⟨S_, .i32⟩
  | 104 => ⟨S2x1x1, .i32⟩
  | 105 => ⟨S2x1x1, .i32⟩
  | 106 => ⟨S2x1x1, .i32⟩
  | 107 => ⟨S_, .i32⟩
  | 108 => ⟨S2x25x25, .i32⟩
  | 109 => ⟨S2x25x25, .i1⟩
  | 110 => ⟨S_, .i32⟩
  | 111 => ⟨S2x25x25, .i32⟩
  | 112 => ⟨S2x25x25, .i32⟩
  | 113 => ⟨S2x25x25, .i32⟩
  | 114 => ⟨S_, .i32⟩
  | 115 => ⟨S2x25x25, .i32⟩
  | 116 => ⟨S2x25x25, .i1⟩
  | 117 => ⟨S_, .i32⟩
  | 118 => ⟨S2x25x25, .i32⟩
  | 119 => ⟨S2x25x25, .i32⟩
  | 120 => ⟨S2x25x25, .i32⟩
  | 121 => ⟨S_, .i32⟩
  | 122 => ⟨S2x25x25, .i32⟩
  | 123 => ⟨S2x25x25, .i1⟩
  | 124 => ⟨S_, .i32⟩
  | 125 => ⟨S2x25x25, .i32⟩
  | 126 => ⟨S2x25x25, .i32⟩
  | 127 => ⟨S2x25x25, .i32⟩
  | _ => ⟨S2x4x200x200, .f32⟩

abbrev hbmTy0_1 (i : Nat) : BufTy := match i % 128 with
  | 0 => ⟨S2x25x25, .i32⟩
  | 1 => ⟨S2x25x25x1, .i32⟩
  | 2 => ⟨S2x25x25x1, .i32⟩
  | 3 => ⟨S2x25x25x1, .i32⟩
  | 4 => ⟨S2x25x25x1, .i32⟩
  | 5 => ⟨S2x25x25x4, .i32⟩
  | 6 => ⟨S2x25x25, .f32⟩
  | 7 => ⟨S2x25x8x25, .f32⟩
  | 8 => ⟨S2x200x25, .f32⟩
  | 9 => ⟨S2x200x25x8, .f32⟩
  | 10 => ⟨S2x200x200, .f32⟩
  | 11 => ⟨S2x1x200x200, .f32⟩
  | 12 => ⟨S2x1x200x200, .f32⟩
  | 13 => ⟨S2x1x200x200, .f32⟩
  | 14 => ⟨S_, .f32⟩
  | 15 => ⟨S_, .f32⟩
  | 16 => ⟨S2x1x200x200, .f32⟩
  | 17 => ⟨S2x1x200x200, .f32⟩
  | 18 => ⟨S2x1x200x200, .f32⟩
  | 19 => ⟨S2x1x200x200, .f32⟩
  | 20 => ⟨S_, .f32⟩
  | 21 => ⟨S_, .f32⟩
  | 22 => ⟨S2x1x200x200, .f32⟩
  | 23 => ⟨S2x1x200x200, .f32⟩
  | 24 => ⟨S2x1x200x200, .f32⟩
  | 25 => ⟨S_, .f32⟩
  | 26 => ⟨S2x1x200x200, .f32⟩
  | 27 => ⟨S2x1x200x200, .f32⟩
  | 28 => ⟨S2x1x200x200, .f32⟩
  | 29 => ⟨S2x1x200x200, .f32⟩
  | 30 => ⟨S_, .f32⟩
  | 31 => ⟨S_, .f32⟩
  | 32 => ⟨S_, .f32⟩
  | 33 => ⟨S_, .f32⟩
  | 34 => ⟨S_, .f32⟩
  | _ => ⟨S2x4x200x200, .f32⟩

abbrev hbmTy (i : Nat) : BufTy := match i / 128 with
  | 0 => hbmTy0_0 i
  | 1 => hbmTy0_1 i
  | _ => ⟨S2x4x200x200, .f32⟩

abbrev bufTy : (tb : Table) → Fin (tcTables nBuf tb) → BufTy
  | .hbm, ⟨i, _⟩ => hbmTy i
  | _, _ => ⟨S2x4x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_cst : Ref sig .tc := ⟨.hbm, 14, rfl⟩
abbrev main_call0_c : Ref sig .tc := ⟨.hbm, 15, rfl⟩
abbrev main_call0_v1_0 : Ref sig .tc := ⟨.hbm, 16, rfl⟩
abbrev main_v5 : Ref sig .tc := ⟨.hbm, 17, rfl⟩
abbrev main_c : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v6 : Ref sig .tc := ⟨.hbm, 35, rfl⟩
abbrev main_c_1 : Ref sig .tc := ⟨.hbm, 36, rfl⟩
abbrev main_call2_v0 : Ref sig .tc := ⟨.hbm, 37, rfl⟩
abbrev main_call2_c : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_c_1 : Ref sig .tc := ⟨.hbm, 44, rfl⟩
abbrev main_call2_v5 : Ref sig .tc := ⟨.hbm, 45, rfl⟩
abbrev main_call2_v6 : Ref sig .tc := ⟨.hbm, 46, rfl⟩
abbrev main_call2_c_2 : Ref sig .tc := ⟨.hbm, 47, rfl⟩
abbrev main_call2_v7 : Ref sig .tc := ⟨.hbm, 48, rfl⟩
abbrev main_call2_v8 : Ref sig .tc := ⟨.hbm, 49, rfl⟩
abbrev main_call2_c_3 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_v7 : Ref sig .tc := ⟨.hbm, 57, rfl⟩
abbrev main_c_2 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v8 : Ref sig .tc := ⟨.hbm, 75, rfl⟩
abbrev main_c_3 : Ref sig .tc := ⟨.hbm, 76, rfl⟩
abbrev main_call4_v0 : Ref sig .tc := ⟨.hbm, 77, rfl⟩
abbrev main_call4_c : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_c_1 : Ref sig .tc := ⟨.hbm, 84, rfl⟩
abbrev main_call4_v5 : Ref sig .tc := ⟨.hbm, 85, rfl⟩
abbrev main_call4_v6 : Ref sig .tc := ⟨.hbm, 86, rfl⟩
abbrev main_call4_c_2 : Ref sig .tc := ⟨.hbm, 87, rfl⟩
abbrev main_call4_v7 : Ref sig .tc := ⟨.hbm, 88, rfl⟩
abbrev main_call4_v8 : Ref sig .tc := ⟨.hbm, 89, rfl⟩
abbrev main_call4_c_3 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_v12 : Ref sig .tc := ⟨.hbm, 94, rfl⟩
abbrev main_call4_v13 : Ref sig .tc := ⟨.hbm, 95, rfl⟩
abbrev main_call4_v14 : Ref sig .tc := ⟨.hbm, 96, rfl⟩
abbrev main_v9 : Ref sig .tc := ⟨.hbm, 97, rfl⟩
abbrev main_v10 : Ref sig .tc := ⟨.hbm, 98, rfl⟩
abbrev main_v11 : Ref sig .tc := ⟨.hbm, 99, rfl⟩
abbrev main_c_4 : Ref sig .tc := ⟨.hbm, 100, rfl⟩
abbrev main_v12 : Ref sig .tc := ⟨.hbm, 101, rfl⟩
abbrev main_v13 : Ref sig .tc := ⟨.hbm, 102, rfl⟩
abbrev main_c_5 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩
abbrev main_c_6 : Ref sig .tc := ⟨.hbm, 107, rfl⟩
abbrev main_v17 : Ref sig .tc := ⟨.hbm, 108, rfl⟩
abbrev main_v18 : Ref sig .tc := ⟨.hbm, 109, rfl⟩
abbrev main_c_7 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_c_8 : Ref sig .tc := ⟨.hbm, 114, rfl⟩
abbrev main_v22 : Ref sig .tc := ⟨.hbm, 115, rfl⟩
abbrev main_v23 : Ref sig .tc := ⟨.hbm, 116, rfl⟩
abbrev main_c_9 : Ref sig .tc := ⟨.hbm, 117, rfl⟩
abbrev main_v24 : Ref sig .tc := ⟨.hbm, 118, rfl⟩
abbrev main_v25 : Ref sig .tc := ⟨.hbm, 119, rfl⟩
abbrev main_v26 : Ref sig .tc := ⟨.hbm, 120, rfl⟩
abbrev main_c_10 : Ref sig .tc := ⟨.hbm, 121, rfl⟩
abbrev main_v27 : Ref sig .tc := ⟨.hbm, 122, rfl⟩
abbrev main_v28 : Ref sig .tc := ⟨.hbm, 123, rfl⟩
abbrev main_c_11 : Ref sig .tc := ⟨.hbm, 124, rfl⟩
abbrev main_v29 : Ref sig .tc := ⟨.hbm, 125, rfl⟩
abbrev main_v30 : Ref sig .tc := ⟨.hbm, 126, rfl⟩
abbrev main_v31 : Ref sig .tc := ⟨.hbm, 127, rfl⟩
abbrev main_v32 : Ref sig .tc := ⟨.hbm, 128, rfl⟩
abbrev main_v33 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_cst_12 : Ref sig .tc := ⟨.hbm, 142, rfl⟩
abbrev main_call5_v0 : Ref sig .tc := ⟨.hbm, 143, rfl⟩
abbrev main_call5_v1 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_cst_13 : Ref sig .tc := ⟨.hbm, 148, rfl⟩
abbrev main_call6_v0 : Ref sig .tc := ⟨.hbm, 149, rfl⟩
abbrev main_call6_v1 : Ref sig .tc := ⟨.hbm, 150, rfl⟩
abbrev main_v49 : Ref sig .tc := ⟨.hbm, 151, rfl⟩
abbrev main_v50 : Ref sig .tc := ⟨.hbm, 152, rfl⟩
abbrev main_cst_14 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_cst_15 : Ref sig .tc := ⟨.hbm, 158, rfl⟩
abbrev main_v55 : Ref sig .tc := ⟨.hbm, 159, rfl⟩
abbrev main_cst_16 : Ref sig .tc := ⟨.hbm, 160, rfl⟩
abbrev main_v56 : Ref sig .tc := ⟨.hbm, 161, rfl⟩
abbrev main_v57 : Ref sig .tc := ⟨.hbm, 162, rfl⟩

abbrev nD : Nat := 1
abbrev τ : Topo := Topo.v7x

variable {F : FTy → Type} [FloatOps F]
-- ==== Proof.FirstMax.lean ====
module

public import Idealize.ShloMosaic.Lib.Pointwise
public import Idealize.ShloMosaic.PureOps.Ideal.Laws
public import Mathlib.Data.EReal.Operations

@[expose] public section

noncomputable section

namespace Cert.FirstMax

open Idealize.ShloMosaic

variable {n : Nat}

/-- `k` is the first position at which `f` takes its largest value. -/
def IsFirst (f : Fin n → EReal) (k : Fin n) : Prop :=
  (∀ p, f p ≤ f k) ∧ ∀ p, p < k → f p < f k

/-- A nonempty row has a first position of its largest value. -/
theorem exists_isFirst (hn : 0 < n) (f : Fin n → EReal) : ∃ k, IsFirst f k := by
  haveI : Nonempty (Fin n) := ⟨⟨0, hn⟩⟩
  obtain ⟨a, -, ha⟩ := Finset.exists_max_image Finset.univ f ⟨⟨0, hn⟩, Finset.mem_univ _⟩
  obtain ⟨k, hk, hmin⟩ := Finset.exists_min_image (Finset.univ.filter fun p => f p = f a) id ⟨a, by simp⟩
  simp only [Finset.mem_filter, Finset.mem_univ, true_and, id] at hk hmin
  refine ⟨k, fun p => hk ▸ ha p (Finset.mem_univ _), fun p hp => ?_⟩
  refine lt_of_le_of_ne (hk ▸ ha p (Finset.mem_univ _)) fun h => ?_
  exact absurd (hmin p (h.trans hk)) (not_le.2 hp)

/-- That position is unique. -/
theorem IsFirst.unique {f : Fin n → EReal} {k l : Fin n} (hk : IsFirst f k) (hl : IsFirst f l) : k = l := by
  rcases lt_trichotomy k l with h | h | h
  · exact absurd (hl.2 k h) (not_lt.2 (hk.1 l))
  · exact h
  · exact absurd (hk.2 l h) (not_lt.2 (hl.1 k))

/-- A strictly increasing change of the values keeps the position. -/
theorem IsFirst.comp {f : Fin n → EReal} {k : Fin n} (hk : IsFirst f k) {g : EReal → EReal} (hg : StrictMono g) :
    IsFirst (fun p => g (f p)) k :=
  ⟨fun p => hg.monotone (hk.1 p), fun p hp => hg (hk.2 p hp)⟩

/-- The row's running maximum from `-∞` ends at the value at its first largest position. -/
theorem IsFirst.fold_max {f : Fin n → EReal} {k : Fin n} (hk : IsFirst f k) : Finset.univ.fold max ⊥ f = f k := by
  refine le_antisymm ?_ ?_
  · exact Finset.fold_max_le _ |>.2 ⟨bot_le, fun p _ => hk.1 p⟩
  · exact Finset.le_fold_max _ |>.2 (.inr ⟨k, Finset.mem_univ _, le_rfl⟩)

/-- The words of natural numbers capped at the largest signed word: the signed minimum is the minimum. -/
theorem minsi_cap (a b : Nat) :
    IntOp.minsi (BitVec.ofNat 32 (min a 2147483647)) (BitVec.ofNat 32 (min b 2147483647))
      = BitVec.ofNat 32 (min (min a b) 2147483647) := by
  unfold IntOp.minsi
  have h : ∀ c : Nat, (BitVec.ofNat 32 (min c 2147483647)).toInt = ((min c 2147483647 : Nat) : Int) := by
    intro c
    have : min c 2147483647 ≤ 2147483647 := min_le_right _ _
    rw [BitVec.toInt_eq_toNat_of_lt] <;> rw [BitVec.toNat_ofNat] <;> omega
  simp only [BitVec.slt_iff_toInt_lt, BitVec.sle_iff_toInt_le, h]
  split <;> congr 1 <;> omega

/-- The signed minimum, over the row, of the positions of the largest value (every other position counted as
    the row's length) is the first such position. -/
theorem IsFirst.fold_min {f : Fin n → EReal} {k : Fin n} (hk : IsFirst f k) (hn : n ≤ 2147483647) :
    Finset.univ.fold IntOp.minsi 2147483647#32
      (fun p : Fin n => if f p = f k then BitVec.ofNat 32 p.val else BitVec.ofNat 32 n) = BitVec.ofNat 32 k.val := by
  have e : (fun p : Fin n => if f p = f k then BitVec.ofNat 32 p.val else BitVec.ofNat 32 n)
      = fun p => BitVec.ofNat 32 (min (if f p = f k then p.val else n) 2147483647) := by
    funext p
    have := p.isLt
    split <;> congr 1 <;> omega
  rw [e, show (2147483647#32) = BitVec.ofNat 32 (min 2147483647 2147483647) from rfl,
    Finset.fold_hom (m := fun a : Nat => BitVec.ofNat 32 (min a 2147483647)) (op := min) (fun a b => (minsi_cap a b).symm)]
  have := k.isLt
  have hf : Finset.univ.fold min 2147483647 (fun p : Fin n => if f p = f k then p.val else n) = k.val := by
    refine le_antisymm ?_ ?_
    · exact Finset.fold_min_le _ |>.2 (.inr ⟨k, Finset.mem_univ _, by simp⟩)
    · refine Finset.le_fold_min _ |>.2 ⟨by omega, fun p _ => ?_⟩
      split
      · next h => exact not_lt.1 fun hp => (hk.2 p hp).ne h
      · omega
  rw [hf]
  congr 1
  omega

/-- Which positions carry the winner's word: the first largest position alone. -/
theorem IsFirst.word_eq_iff {f : Fin n → EReal} {k : Fin n} (hn : n ≤ 2147483647) (p : Fin n) :
    (if f p = f k then BitVec.ofNat 32 p.val else BitVec.ofNat 32 n) = BitVec.ofNat 32 k.val ↔ p = k := by
  have hp := p.isLt
  have hk := k.isLt
  have inj : ∀ a b : Nat, a ≤ n → b ≤ n → (BitVec.ofNat 32 a = BitVec.ofNat 32 b ↔ a = b) := by
    intro a b ha hb
    constructor
    · intro h
      have := congrArg BitVec.toNat h
      simp only [BitVec.toNat_ofNat] at this
      omega
    · exact fun h => h ▸ rfl
  constructor
  · intro h
    split at h
    · exact Fin.ext ((inj _ _ hp.le hk.le).1 h)
    · have := (inj _ _ le_rfl hk.le).1 h
      omega
  · rintro rfl
    simp

end Cert.FirstMax

end
-- ==== Proof.KScore.lean ====
module

public import proofs.«01_k».proof.Proof.FirstMax
public import proofs.«01_k».proof.Proof.Gen.KernelIdeal.Skeleton
public import Idealize.ShloMosaic.Lib.Pointwise

@[expose] public section

set_option maxRecDepth 16384

noncomputable section

namespace Cert.KScore

open Idealize.ShloMosaic Idealize.ShloMosaic.TcCoe
open Cert.KernelIdeal Cert.KernelIdeal.Gen
open Cert.FirstMax

/-- Per row of scores, the lane's number where the score is the row's largest and the row's length elsewhere. -/
def word (s : FVec Ideal S8x40320 .f32) : IVec S8x40320 32 :=
  select (cmpf .oeq s (broadcastTo S8x40320 (shapeCast S8x1 (multiReduction .maximumf [1] S8 s 0xFF800000#32 reduces_S8x40320_S8 (.inl rfl) rfl) shapeCasts_S8_S8x1) broadcasts_S8x1_S8x40320))
    (iota .tc S8x40320 32 [1] iota_S8x40320_d1_w32) (broadcast S8x40320 40320#32)

/-- The mark of the first lane of each row's largest score. -/
def mark (s : FVec Ideal S8x40320 .f32) : IVec S8x40320 1 :=
  cmpi .eq (word s) (broadcastTo S8x40320 (shapeCast S8x1 (multiReductionI .minsi [1] S8 (word s)
    2147483647#32 reduces_S8x40320_S8 rfl) shapeCasts_S8_S8x1) broadcasts_S8x1_S8x40320)

/-- What the kernel stores for eight rows of scores `s` and one batch's values `o`: per row, the value at the first
    lane of the row's largest score (the first five rows are kept). -/
def pick (s : FVec Ideal S8x40320 .f32) (o : FVec Ideal S1x1x40320 .f32) : FVec Ideal S1x1x5 .f32 :=
  k0_pay1 (F := Ideal) (mark s) o

/-- The words of a row whose first largest score is at `k`. -/
theorem word_at (s : FVec Ideal S8x40320 .f32) (r : Fin 8) (k : Fin 40320)
    (hk : IsFirst (fun p : Fin 40320 => (s (ix2 r p) : EReal)) k) (p : Fin 40320) :
    word s (ix2 r p) = if (s (ix2 r p) : EReal) = s (ix2 r k) then BitVec.ofNat 32 p.val else BitVec.ofNat 32 40320 := by
  have hm : Finset.fold max (Ideal.ofBits FTy.f32 4286578688#32) (fun x => s (ix2 r x)) Finset.univ = s (ix2 r k) := by
    rw [show Ideal.ofBits FTy.f32 4286578688#32 = ⊥ from by rfl]
    exact hk.fold_max
  pointwise [word]
  rw [hm]

/-- The mark is at the first largest score alone. -/
theorem mark_at (s : FVec Ideal S8x40320 .f32) (r : Fin 8) (k : Fin 40320)
    (hk : IsFirst (fun p : Fin 40320 => (s (ix2 r p) : EReal)) k) (p : Fin 40320) :
    mark s (ix2 r p) = if p = k then 1#1 else 0#1 := by
  have hf : Finset.univ.fold IntOp.minsi 2147483647#32 (fun x : Fin 40320 => word s (ix2 r x)) = BitVec.ofNat 32 k.val := by
    simp only [word_at s r k hk]
    exact hk.fold_min (by decide)
  have hw := IsFirst.word_eq_iff (f := fun p : Fin 40320 => (s (ix2 r p) : EReal)) (k := k) (by decide) p
  pointwise [mark]
  rw [hf, word_at s r k hk]
  by_cases h : p = k
  · have e := hw.2 h
    rw [if_pos h]
    exact (congrArg (fun z => IntOp.cmpi CmpIPredicate.eq z (BitVec.ofNat 32 k.val)) e).trans (by simp [IntOp.cmpi])
  · have e := mt hw.1 h
    rw [if_neg h]
    have hb : ((if (s (ix2 r p) : EReal) = s (ix2 r k) then BitVec.ofNat 32 p.val else BitVec.ofNat 32 40320) == BitVec.ofNat 32 k.val) = false := by
      simpa using e
    simp only [IntOp.cmpi]
    exact congrArg BitVec.ofBool hb

/-- What is stored for row `r` is the value at the row's first largest score. -/
theorem pick_at (s : FVec Ideal S8x40320 .f32) (o : FVec Ideal S1x1x40320 .f32) (r : Fin 5) (k : Fin 40320)
    (hk : IsFirst (fun p : Fin 40320 => (s (ix2 (⟨r.val, by omega⟩ : Fin 8) p) : EReal)) k) :
    pick s o (ix3 (0 : Fin 1) (0 : Fin 1) r) = o (ix3 (0 : Fin 1) (0 : Fin 1) k) := by
  have hx := mark_at s ⟨r.val, by omega⟩ k hk
  unfold pick
  generalize mark s = v at hx
  have e : k0_pay1 (F := Ideal) v o (ix3 (0 : Fin 1) (0 : Fin 1) r)
      = ∑ x : Fin 40320, (Scalar.select (v (ix2 (⟨r.val, by omega⟩ : Fin 8) x)) (o (ix3 (0 : Fin 1) (0 : Fin 1) x)) 0 : EReal) := by
    pointwise [k0_pay1]
  rw [e]
  simp only [hx]
  refine (Finset.sum_eq_single k (fun x _ hx => ?_) (by simp)).trans ?_
  · rw [if_neg hx]; rfl
  · rw [if_pos rfl]; rfl

/-- The selection matrix the kernel builds, at the row of (batch, position) and the column of (position, batch, head). -/
abbrev selM (x0 x1 x2 : FVec Ideal S40x40320 .f32) (x3 : FVec Ideal S2x1x40320 .f32) : FVec Ideal S16x40 .f32 :=
  k0_pay8 (F := Ideal) (iota .tc S16x40 32 [0] iota_S16x40_d0_w32) k0_pay3 (k0_pay4 (iota .tc S16x40 32 [1] iota_S16x40_d1_w32) 8#32 0#32) 8#32
   (k0_pay5 (iota .tc S16x40 32 [0] iota_S16x40_d0_w32)) (k0_pay6 (iota .tc S16x40 32 [0] iota_S16x40_d0_w32)) k0_pay7

/-- A 0/1 word read as a float is 0 or 1. -/
theorem sitofp_bit (E : IVec S16x40 32) (C : Fin 16 → Fin 40 → Prop) [∀ r c, Decidable (C r c)]
    (h : ∀ r c, E (ix2 r c) = if C r c then 1#32 else 0#32) (r : Fin 16) (c : Fin 40) :
    (sitofp (F := Ideal) .f32 E (ix2 r c) : EReal) = if C r c then 1 else 0 := by
  show ((((E (ix2 r c)).toInt : ℤ) : ℝ) : EReal) = _
  rw [h]
  split <;> simp

/-- The selection matrix is one exactly where the column is a head of the row's batch at the row's position. -/
theorem sel_at (x0 x1 x2 : FVec Ideal S40x40320 .f32) (x3 : FVec Ideal S2x1x40320 .f32) (r : Fin 16) (c : Fin 40) :
    selM x0 x1 x2 x3 (ix2 r c) = if c.val / 8 = r.val % 8 ∧ c.val % 8 / 4 = r.val / 8 ∧ r.val % 8 < 5 then 1 else 0 := by
  unfold selM k0_pay8
  refine sitofp_bit _ (fun r c => c.val / 8 = r.val % 8 ∧ c.val % 8 / 4 = r.val / 8 ∧ r.val % 8 < 5) (fun r c => ?_) r c
  pointwise [k0_pay3, k0_pay4, k0_pay5, k0_pay6, k0_pay7]
  revert r c
  decide +kernel

/-- The scores the kernel adds up from one block of attention rows. -/
def sums (w : FVec Ideal S16x40 .f32) (x : FVec Ideal S40x40320 .f32) : FVec Ideal S16x40320 .f32 := k0_pay16 (F := Ideal) w x

/-- Row `r` of the scores of a finite block is the weighted sum down the block's column. -/
theorem sums_at (w : FVec Ideal S16x40 .f32) (x : FVec Ideal S40x40320 .f32) (r : Fin 16) (p : Fin 40320)
    (hx : ∀ c : Fin 40, (x (ix2 c p) : EReal) ≠ ⊤ ∧ (x (ix2 c p) : EReal) ≠ ⊥) :
    (sums w x (ix2 r p) : EReal) = ∑ c : Fin 40, (w (ix2 r c) * x (ix2 c p) : EReal) := by
  pointwise [sums, k0_pay16]
  have h0 : ∀ c : Fin 40, (w (ix2 r c) * (x (ix2 c p) - x (ix2 c p)) : EReal) = 0 := fun c => by
    rw [EReal.sub_self (hx c).1 (hx c).2, mul_zero]
  exact (congrArg (_ + ·) (Finset.sum_eq_zero fun c _ => h0 c)).trans (add_zero _)

/-- Under the kernel's selection matrix, the score of batch `b` at position `j` of a block is the sum of the four heads. -/
theorem score_at (x0 x1 x2 : FVec Ideal S40x40320 .f32) (x3 : FVec Ideal S2x1x40320 .f32)
    (x : FVec Ideal S40x40320 .f32) (b : Fin 2) (j : Fin 5) (p : Fin 40320)
    (hx : ∀ c : Fin 40, (x (ix2 c p) : EReal) ≠ ⊤ ∧ (x (ix2 c p) : EReal) ≠ ⊥) :
    (sums (selM x0 x1 x2 x3) x (ix2 (⟨8 * b.val + j.val, by omega⟩ : Fin 16) p) : EReal)
      = ∑ h : Fin 4, (x (ix2 (⟨8 * j.val + 4 * b.val + h.val, by omega⟩ : Fin 40) p) : EReal) := by
  rw [sums_at _ _ _ _ hx]
  generalize hf : (fun c : Fin 40 => (x (ix2 c p) : EReal)) = f
  have hf' : ∀ c : Fin 40, (x (ix2 c p) : EReal) = f c := fun c => congrFun hf c
  simp only [hf', sel_at]
  clear hf hf' hx
  have : ∀ c : Fin 40, ((if c.val / 8 = (8 * b.val + j.val) % 8 ∧ c.val % 8 / 4 = (8 * b.val + j.val) / 8 ∧ (8 * b.val + j.val) % 8 < 5
      then (1 : EReal) else 0) * f c) = if c ∈ Finset.univ.image (fun h : Fin 4 => (⟨8 * j.val + 4 * b.val + h.val, by omega⟩ : Fin 40))
      then f c else 0 := fun c => by
    have e : (c.val / 8 = (8 * b.val + j.val) % 8 ∧ c.val % 8 / 4 = (8 * b.val + j.val) / 8 ∧ (8 * b.val + j.val) % 8 < 5)
        ↔ c ∈ Finset.univ.image (fun h : Fin 4 => (⟨8 * j.val + 4 * b.val + h.val, by omega⟩ : Fin 40)) := by
      simp only [Finset.mem_image, Finset.mem_univ, true_and]
      constructor
      · intro h
        exact ⟨⟨c.val % 4, by omega⟩, Fin.ext (by show 8 * j.val + 4 * b.val + c.val % 4 = c.val; omega)⟩
      · rintro ⟨h, rfl⟩
        have e1 : (8 * b.val + j.val) % 8 = j.val := by omega
        have e2 : (8 * b.val + j.val) / 8 = b.val := by omega
        have e3 : (8 * j.val + 4 * b.val + h.val) / 8 = j.val := by omega
        have e4 : (8 * j.val + 4 * b.val + h.val) % 8 / 4 = b.val := by omega
        show (8 * j.val + 4 * b.val + h.val) / 8 = _ ∧ (8 * j.val + 4 * b.val + h.val) % 8 / 4 = _ ∧ _
        exact ⟨e3.trans e1.symm, e4.trans e2.symm, by omega⟩
    simp only [e, ite_mul, one_mul, zero_mul]
  rw [Finset.sum_congr rfl fun c _ => this c, Finset.sum_ite_mem, Finset.univ_inter, Finset.sum_image]
  intro a _ c _ h
  have := congrArg Fin.val h
  exact Fin.ext (by simpa using this)

end Cert.KScore

end
-- ==== Proof.Spec.lean ====
module

public import proofs.«01_k».proof.Proof.FirstMax
public import Mathlib.Data.EReal.Operations
public import Mathlib.Data.EReal.Inv

@[expose] public section

noncomputable section

namespace Cert.Spec

open Idealize.ShloMosaic
open Cert.FirstMax

/-- The score of image position `p` for batch `b` and grid position `q`: the attention summed over the four heads. -/
def score (att : Fin 8 → Fin 625 → Fin 40320 → EReal) (b : Fin 2) (q : Fin 625) (p : Fin 40320) : EReal :=
  ∑ h : Fin 4, att ⟨4 * b.val + h.val, by omega⟩ q p

/-- The first image position of the largest score. -/
def best (att : Fin 8 → Fin 625 → Fin 40320 → EReal) (b : Fin 2) (q : Fin 625) : Fin 40320 :=
  Classical.choose (exists_isFirst (by decide) (score att b q))

/-- The best position is the first that attains the maximum of the scores. -/
theorem best_isFirst (att : Fin 8 → Fin 625 → Fin 40320 → EReal) (b : Fin 2) (q : Fin 625) :
    IsFirst (score att b q) (best att b q) :=
  Classical.choose_spec (exists_isFirst (by decide) (score att b q))

/-- The value looked up at that position. -/
def mask (att : Fin 8 → Fin 625 → Fin 40320 → EReal) (ood : Fin 2 → Fin 40320 → EReal) (b : Fin 2) (q : Fin 625) : EReal :=
  ood b (best att b q)

end Cert.Spec

end
-- ==== Proof.KBlock.lean ====
module

public import proofs.«01_k».proof.Proof.KScore
public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KBlock

open Idealize.ShloMosaic Idealize.ShloMosaic.TcCoe
open Cert.KernelIdeal Cert.KernelIdeal.Gen
open Cert.FirstMax Cert.KScore

/-- The scores of batch `b`: eight of the sixteen rows. -/
def half (b : Fin 2) (w : FVec Ideal S16x40320 .f32) : FVec Ideal S8x40320 .f32 :=
  if b = 0 then extractStridedSlice S8x40320 ![0, 0] w slices_S16x40320_o0_0_S8x40320
  else extractStridedSlice S8x40320 ![8, 0] w slices_S16x40320_o8_0_S8x40320

/-- A row of a half is a row of the whole. -/
theorem half_at (b : Fin 2) (w : FVec Ideal S16x40320 .f32) (r : Fin 8) (p : Fin 40320) :
    half b w (ix2 r p) = w (ix2 (⟨8 * b.val + r.val, by omega⟩ : Fin 16) p) := by
  obtain rfl | rfl : b = 0 ∨ b = 1 := by omega
  · unfold half
    rw [if_pos rfl]
    pointwise []
  · unfold half
    rw [if_neg (by decide)]
    pointwise []

/-- What is stored for batch `b` from one block `x` of attention rows: the value at each position's best lane. -/
theorem pick_half (x0 x1 x2 x : FVec Ideal S40x40320 .f32) (x3 : FVec Ideal S2x1x40320 .f32) (o : FVec Ideal S1x1x40320 .f32)
    (b : Fin 2) (r : Fin 5) (k : Fin 40320)
    (hx : ∀ (c : Fin 40) (p : Fin 40320), (x (ix2 c p) : EReal) ≠ ⊤ ∧ (x (ix2 c p) : EReal) ≠ ⊥)
    (hk : IsFirst (fun p : Fin 40320 => ∑ h : Fin 4, (x (ix2 (⟨8 * r.val + 4 * b.val + h.val, by omega⟩ : Fin 40) p) : EReal)) k) :
    pick (half b (sums (selM x0 x1 x2 x3) x)) o (ix3 (0 : Fin 1) (0 : Fin 1) r) = o (ix3 (0 : Fin 1) (0 : Fin 1) k) := by
  refine pick_at _ _ r k ?_
  have e : (fun p : Fin 40320 => (half b (sums (selM x0 x1 x2 x3) x) (ix2 (⟨r.val, by omega⟩ : Fin 8) p) : EReal))
      = fun p : Fin 40320 => ∑ h : Fin 4, (x (ix2 (⟨8 * r.val + 4 * b.val + h.val, by omega⟩ : Fin 40) p) : EReal) :=
    funext fun p => (half_at b _ ⟨r.val, by omega⟩ p).trans (score_at x0 x1 x2 x3 x b r p fun c => hx c p)
  rw [e]
  exact hk

set_option maxHeartbeats 1000000 in
/-- The block the argmax body leaves, at its position `j`, batch `b` and lane `r`. -/
theorem out_at (x : Fin 3 → FVec Ideal S40x40320 .f32) (x3 : FVec Ideal S2x1x40320 .f32) (j : Fin 3) (b : Fin 2) (r : Fin 5)
    (k : Fin 40320)
    (hx : ∀ (j : Fin 3) (c : Fin 40) (p : Fin 40320), (x j (ix2 c p) : EReal) ≠ ⊤ ∧ (x j (ix2 c p) : EReal) ≠ ⊥)
    (hk : IsFirst (fun p : Fin 40320 => ∑ h : Fin 4, (x j (ix2 (⟨8 * r.val + 4 * b.val + h.val, by omega⟩ : Fin 40) p) : EReal)) k) :
    out0_4 (F := Ideal) (x 0) (x 1) (x 2) x3 (ix3 j b r) = x3 (ix3 b (0 : Fin 1) k) := by
  have key : ∀ o, pick (half b (sums (selM (x 0) (x 1) (x 2) x3) (x j))) o (ix3 (0 : Fin 1) (0 : Fin 1) r) = o (ix3 (0 : Fin 1) (0 : Fin 1) k) :=
    fun o => pick_half (x 0) (x 1) (x 2) (x j) x3 o b r k (hx j) hk
  have ld0 : ∀ z : FVec Ideal S40x40320 .f32, View.ld (Val := Elt Ideal) (e' := .f32) z r0_0 = z := fun z =>
    View.ld_unit_lit _ _ (by decide)
  have close : ∀ (y : S1x1x5.Idx) (P : FVec Ideal S1x1x5 .f32) (o : FVec Ideal S1x1x40320 .f32),
      (r.val = (y 2).val) → P = pick (half b (sums (selM (x 0) (x 1) (x 2) x3) (x j))) o →
      o (ix3 (0 : Fin 1) (0 : Fin 1) k) = x3 (ix3 b (0 : Fin 1) k) → P y = x3 (ix3 b (0 : Fin 1) k) := fun y P o hy hP ho => by
    have ey : y = ix3 (0 : Fin 1) (0 : Fin 1) r := by
      funext a
      match a with
      | ⟨0, _⟩ => exact Fin.ext (show (y 0).val = 0 by have := (y 0).isLt; change (y 0).val < 1 at this; omega)
      | ⟨1, _⟩ => exact Fin.ext (show (y 1).val = 0 by have := (y 1).isLt; change (y 1).val < 1 at this; omega)
      | ⟨2, _⟩ => exact Fin.ext hy.symm
    rw [hP, ey, key, ho]
  unfold out0_4
  canon_tiles y h
  · obtain rfl : j = 2 := Fin.ext (show j.val = 2 by change j.val = _ at h0; omega)
    obtain rfl : b = 1 := Fin.ext (show b.val = 1 by change b.val = _ at h1; omega)
    refine close y _ (View.ld (Val := Elt Ideal) (e' := .f32) x3 r0_3) h2 ?_ (by pointwise [])
    first | rw [ld0] | (unfold k0_pay25 k0_pay26; rw [ld0])
    unfold half
    rw [if_neg (by decide)]
    rfl
  · obtain rfl : j = 2 := Fin.ext (show j.val = 2 by change j.val = _ at h0; omega)
    obtain rfl : b = 0 := Fin.ext (show b.val = 0 by change b.val = _ at h1; omega)
    refine close y _ (View.ld (Val := Elt Ideal) (e' := .f32) x3 r0_1) h2 ?_ (by pointwise [])
    first | rw [ld0] | (unfold k0_pay25 k0_pay26; rw [ld0])
    unfold half
    rw [if_pos rfl]
    rfl
  · obtain rfl : j = 1 := Fin.ext (show j.val = 1 by change j.val = _ at h0; omega)
    obtain rfl : b = 1 := Fin.ext (show b.val = 1 by change b.val = _ at h1; omega)
    refine close y _ (View.ld (Val := Elt Ideal) (e' := .f32) x3 r0_3) h2 ?_ (by pointwise [])
    first | rw [ld0] | (unfold k0_pay25 k0_pay26; rw [ld0])
    unfold half
    rw [if_neg (by decide)]
    rfl
  · obtain rfl : j = 1 := Fin.ext (show j.val = 1 by change j.val = _ at h0; omega)
    obtain rfl : b = 0 := Fin.ext (show b.val = 0 by change b.val = _ at h1; omega)
    refine close y _ (View.ld (Val := Elt Ideal) (e' := .f32) x3 r0_1) h2 ?_ (by pointwise [])
    first | rw [ld0] | (unfold k0_pay25 k0_pay26; rw [ld0])
    unfold half
    rw [if_pos rfl]
    rfl
  · obtain rfl : j = 0 := Fin.ext (show j.val = 0 by change j.val = _ at h0; omega)
    obtain rfl : b = 1 := Fin.ext (show b.val = 1 by change b.val = _ at h1; omega)
    refine close y _ (View.ld (Val := Elt Ideal) (e' := .f32) x3 r0_3) h2 ?_ (by pointwise [])
    first | rw [ld0] | (unfold k0_pay25 k0_pay26; rw [ld0])
    unfold half
    rw [if_neg (by decide)]
    rfl
  · obtain rfl : j = 0 := Fin.ext (show j.val = 0 by change j.val = _ at h0; omega)
    obtain rfl : b = 0 := Fin.ext (show b.val = 0 by change b.val = _ at h1; omega)
    refine close y _ (View.ld (Val := Elt Ideal) (e' := .f32) x3 r0_1) h2 ?_ (by pointwise [])
    first | rw [ld0] | (unfold k0_pay25 k0_pay26; rw [ld0])
    unfold half
    rw [if_pos rfl]
    rfl

end Cert.KBlock

end
-- ==== Proof.KMask.lean ====
module

public import proofs.«01_k».proof.Proof.KBlock
public import Idealize.ShloMosaic.Lib.Claim

@[expose] public section

set_option maxRecDepth 16384

noncomputable section

namespace Cert.KMask

open Idealize.ShloMosaic Idealize.ShloMosaic.TcCoe
open Cert.KernelIdeal Cert.KernelIdeal.Gen
open Cert.FirstMax Cert.Spec

variable (m : (ℓ : Loc nD τ sig) → Buf (Elt Ideal) ℓ) (ρ : Dev nD → PrngReg)

/-- The attention array of the launch memory, by head row, grid position and image position. -/
def attOf (c : Dev nD) : Fin 8 → Fin 625 → Fin 40320 → EReal :=
  fun a q p => (m ((c : Thread nD τ).loc main_arg4) : FVec Ideal S8x625x40320 .f32) (ix3 a q p)

/-- The map of cameras of the launch memory, by batch and flattened image position. -/
def oodOf (c : Dev nD) : Fin 2 → Fin 40320 → EReal :=
  fun b p => (m ((c : Thread nD τ).loc main_arg3) : FVec Ideal S2x6x56x120 .f32)
    (ix4 b (⟨p.val / 6720, by omega⟩ : Fin 6) (⟨p.val / 120 % 56, by omega⟩ : Fin 56) (⟨p.val % 120, by omega⟩ : Fin 120))

/-- The rows the kernel reads: position by position, its eight head rows. -/
theorem v1_at (c : Dev nD) (R : Fin 5000) (p : Fin 40320) :
    ((V1 m ρ c main_v1 : FVec Ideal S5000x40320 .f32) (ix2 R p) : EReal)
      = attOf m c ⟨R.val % 8, by omega⟩ ⟨R.val / 8, by omega⟩ p := by
  show ((StableHlo.after hostOps0 (W0 m ρ c) (Proc.devRef .tc main_v1) : FVec Ideal S5000x40320 .f32) (ix2 R p) : EReal) = _
  entry_read
  unfold attOf
  pointwise []

/-- The map the kernel reads, flattened. -/
theorem v2_at (c : Dev nD) (b : Fin 2) (p : Fin 40320) :
    ((V1 m ρ c main_v2 : FVec Ideal S2x1x40320 .f32) (ix3 b (0 : Fin 1) p) : EReal) = oodOf m c b p := by
  show ((StableHlo.after hostOps0 (W0 m ρ c) (Proc.devRef .tc main_v2) : FVec Ideal S2x1x40320 .f32) (ix3 b (0 : Fin 1) p) : EReal) = _
  entry_read
  unfold oodOf
  pointwise []

/-- The row blocks the three attention windows stage at a grid point. -/
theorem idx0 : ∀ t : Fin cfg0.N, win0_0.index t = ![min (3 * t.val) 124, 0] :=
  (by decide +kernel : ∀ t : Fin grid0.N, win0_0.index t = ![min (3 * t.val) 124, 0])
/-- The row block of the second attention window. -/
theorem idx1 : ∀ t : Fin cfg0.N, win0_1.index t = ![min (3 * t.val + 1) 124, 0] :=
  (by decide +kernel : ∀ t : Fin grid0.N, win0_1.index t = ![min (3 * t.val + 1) 124, 0])
/-- The row block of the third attention window. -/
theorem idx2 : ∀ t : Fin cfg0.N, win0_2.index t = ![min (3 * t.val + 2) 124, 0] :=
  (by decide +kernel : ∀ t : Fin grid0.N, win0_2.index t = ![min (3 * t.val + 2) 124, 0])
/-- The map of cameras is staged whole. -/
theorem idx3 : ∀ t : Fin cfg0.N, win0_3.index t = ![0, 0, 0] :=
  (by decide +kernel : ∀ t : Fin grid0.N, win0_3.index t = ![0, 0, 0])
/-- The block of the mask written at a grid point. -/
theorem idx4 : ∀ t : Fin cfg0.N, win0_4.index t = ![t.val, 0, 0] :=
  (by decide +kernel : ∀ t : Fin grid0.N, win0_4.index t = ![t.val, 0, 0])

/-- The three blocks of attention rows staged at a grid point. -/
def blocks (c : Dev nD) (t : Fin cfg0.N) : Fin 3 → FVec Ideal S40x40320 .f32
  | ⟨0, _⟩ => iblk0 (V1 m ρ) c 0 t
  | ⟨1, _⟩ => iblk0 (V1 m ρ) c 1 t
  | ⟨2, _⟩ => iblk0 (V1 m ρ) c 2 t

/-- The selection region's grid has forty-two points. -/
theorem t_lt (t : Fin cfg0.N) : t.val < 42 := lt_of_lt_of_eq t.isLt (by decide : grid0.N = 42)

/-- A staged block's row is a head row of one grid position. -/
theorem blocks_at (c : Dev nD) (t : Fin cfg0.N) (j : Fin 3) (r : Fin 40) (p : Fin 40320) :
    (blocks m ρ c t j (ix2 r p) : EReal)
      = attOf m c ⟨r.val % 8, by omega⟩ ⟨5 * min (3 * t.val + j.val) 124 + r.val / 8, by omega⟩ p := by
  have ht := t_lt t
  have main : ∀ e : S5000x40320.Idx, (e 0).val = 40 * min (3 * t.val + j.val) 124 + r.val → (e 1).val = p.val →
      ((V1 m ρ c main_v1 : FVec Ideal S5000x40320 .f32) e : EReal)
        = attOf m c ⟨r.val % 8, by omega⟩ ⟨5 * min (3 * t.val + j.val) 124 + r.val / 8, by omega⟩ p := fun e h0 h1 => by
    have ee : e = ix2 (⟨40 * min (3 * t.val + j.val) 124 + r.val, by omega⟩ : Fin 5000) p := by
      funext a
      match a with
      | ⟨0, _⟩ => exact Fin.ext h0
      | ⟨1, _⟩ => exact Fin.ext h1
    rw [ee, v1_at]
    congr 1
    · apply Fin.ext; show (40 * min (3 * t.val + j.val) 124 + r.val) % 8 = r.val % 8; omega
    · apply Fin.ext; show (40 * min (3 * t.val + j.val) 124 + r.val) / 8 = 5 * min (3 * t.val + j.val) 124 + r.val / 8; omega
  match j, main with
  | ⟨0, _⟩, main =>
    show (iblk0 (V1 m ρ) c 0 t (ix2 r p) : EReal) = _
    refine main ((win0_0.blk t).view.emb (ix2 r p)) ?_ ?_
    · blk_simp [idx0 t]
      exact congrArg (· + r.val) (Nat.mul_comm _ 40)
    · blk_simp [idx0 t]
  | ⟨1, _⟩, main =>
    show (iblk0 (V1 m ρ) c 1 t (ix2 r p) : EReal) = _
    refine main ((win0_1.blk t).view.emb (ix2 r p)) ?_ ?_
    · blk_simp [idx1 t]
      exact congrArg (· + r.val) (Nat.mul_comm _ 40)
    · blk_simp [idx1 t]
  | ⟨2, _⟩, main =>
    show (iblk0 (V1 m ρ) c 2 t (ix2 r p) : EReal) = _
    refine main ((win0_2.blk t).view.emb (ix2 r p)) ?_ ?_
    · blk_simp [idx2 t]
      exact congrArg (· + r.val) (Nat.mul_comm _ 40)
    · blk_simp [idx2 t]

/-- The array the argmax region leaves: the looked-up values, five positions per block, the last block twice. -/
theorem v3_arr (c : Dev nD) (hatt : ∀ a q p, attOf m c a q p ≠ ⊤ ∧ attOf m c a q p ≠ ⊥) :
    ((dat0 (V1 m ρ) c).arrAt 4 cfg0.N : FVec Ideal S126x2x5 .f32)
      = fun i => mask (attOf m c) (oodOf m c) (i 1) ⟨5 * min (i 0).val 124 + (i 2).val, by
          have := (i 2).isLt; change (i 2).val < 5 at this; omega⟩ := by
  refine (dat0 (V1 m ρ) c).arrAt_eq_of_covers 4 _ (by decide +kernel) fun t hf y => ?_
  blk_simp
  rw [after0_4]
  have ht := t_lt t
  have h0 : (y 0).val < 3 := (y 0).isLt
  have h1 : (y 1).val < 2 := (y 1).isLt
  have h2 : (y 2).val < 5 := (y 2).isLt
  obtain ⟨j, hj⟩ : ∃ j : Fin 3, j.val = (y 0).val := ⟨⟨_, h0⟩, rfl⟩
  obtain ⟨b, hb⟩ : ∃ b : Fin 2, b.val = (y 1).val := ⟨⟨_, h1⟩, rfl⟩
  obtain ⟨r, hr⟩ : ∃ r : Fin 5, r.val = (y 2).val := ⟨⟨_, h2⟩, rfl⟩
  obtain ⟨q, hq⟩ : ∃ q : Fin 625, q.val = 5 * min (3 * t.val + j.val) 124 + r.val := ⟨⟨_, by omega⟩, rfl⟩
  have ey : y = ix3 j b r := by
    funext a
    match a with
    | ⟨0, _⟩ => exact Fin.ext hj.symm
    | ⟨1, _⟩ => exact Fin.ext hb.symm
    | ⟨2, _⟩ => exact Fin.ext hr.symm
  have hk := best_isFirst (attOf m c) b q
  have e := KBlock.out_at (blocks m ρ c t) (iblk0 (V1 m ρ) c 3 t) j b r (best (attOf m c) b q)
    (fun j r p => by rw [blocks_at]; exact hatt _ _ _) (by
      have es : score (attOf m c) b q = fun p : Fin 40320 =>
          ∑ h : Fin 4, (blocks m ρ c t j (ix2 (⟨8 * r.val + 4 * b.val + h.val, by omega⟩ : Fin 40) p) : EReal) := by
        funext p
        unfold score
        refine Finset.sum_congr rfl fun h _ => ?_
        rw [blocks_at]
        congr 1
        · apply Fin.ext; show 4 * b.val + h.val = (8 * r.val + 4 * b.val + h.val) % 8; omega
        · apply Fin.ext
          show q.val = 5 * min (3 * t.val + j.val) 124 + (8 * r.val + 4 * b.val + h.val) / 8
          omega
      rw [← es]
      exact hk)
  have e3 : (iblk0 (V1 m ρ) c 3 t (ix3 b (0 : Fin 1) (best (attOf m c) b q)) : EReal) = mask (attOf m c) (oodOf m c) b q := by
    unfold mask
    rw [← v2_at m ρ]
    show V1 m ρ c main_v2 ((win0_3.blk t).view.emb (ix3 b (0 : Fin 1) (best (attOf m c) b q))) = _
    congr 1
    blk_ext [idx3 t]
  rw [ey]
  refine e.trans (e3.trans ?_)
  congr 1
  · apply Fin.ext
    blk_simp [idx4 t]
  · apply Fin.ext
    rw [hq]
    simp [idx4 t]
    rw [Nat.mul_comm 3]

end Cert.KMask

end
-- ==== Proof.Bce.lean ====
module

public import Idealize.ShloMosaic.PureOps.Ideal.Laws
public import Mathlib.Data.EReal.Operations
public import Mathlib.Data.EReal.Inv

@[expose] public section

set_option maxRecDepth 16384

noncomputable section

namespace Cert.Bce

open Idealize.ShloMosaic

/-- The pattern of 8.0. -/
theorem eight_bits : Ideal.ofBits .f32 1090519040#32 = ((8 : ℝ) : EReal) := by
  simp [Ideal.ofBits, Ideal.ieee, -EReal.coe_mul]; norm_num

/-- The pattern of -100.0. -/
theorem floor_bits : Ideal.ofBits .f32 3267887104#32 = ((-100 : ℝ) : EReal) := by
  simp [Ideal.ofBits, Ideal.ieee, -EReal.coe_mul, -EReal.coe_neg]; norm_num

/-- The logarithm, at least -100. -/
def logC (x : EReal) : EReal := max (Ideal.log x) (Ideal.ofBits .f32 3267887104#32)

/-- The logarithm of one less the argument, at least -100. -/
def log1C (x : EReal) : EReal := max (Ideal.log1p (-x)) (Ideal.ofBits .f32 3267887104#32)

/-- A number that is not +∞ is a real once it is at least -100. -/
theorem max_real (z : EReal) (hz : z ≠ ⊤) : ∃ r : ℝ, max z (Ideal.ofBits .f32 3267887104#32) = (r : EReal) := by
  rw [floor_bits]
  induction z using EReal.rec with
  | bot => exact ⟨-100, by simp⟩
  | top => exact absurd rfl hz
  | coe a => exact ⟨max a (-100), (EReal.coe_strictMono.monotone.map_max).symm⟩

/-- The logarithm of a real is not plus infinity. -/
theorem log_ne_top (r : ℝ) : Ideal.log (r : EReal) ≠ ⊤ := by
  show (if r ≤ 0 then (⊥ : EReal) else (Real.log r : EReal)) ≠ ⊤
  split
  · exact bot_ne_top
  · exact EReal.coe_ne_top _

/-- Both clamped logarithms of a real are reals. -/
theorem logC_real (r : ℝ) : ∃ s : ℝ, logC (r : EReal) = (s : EReal) := max_real _ (log_ne_top r)
/-- The clamped logarithm of one minus a real is a real. -/
theorem log1C_real (r : ℝ) : ∃ s : ℝ, log1C (r : EReal) = (s : EReal) := by
  refine max_real _ ?_
  show Ideal.log (1 + -(r : EReal)) ≠ ⊤
  have : (1 + -(r : EReal)) = ((1 - r : ℝ) : EReal) := by
    rw [sub_eq_add_neg]; push_cast; rfl
  rw [this]
  exact log_ne_top _

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The grouping weight: pixel `R` is in cell row `i`. -/
def g (i : Fin 25) (R : Fin 200) : ℝ := if R.val / 8 = i.val then 1 else 0

/-- The cell of a pixel. -/
def cell (R : Fin 200) : Fin 25 := ⟨R.val / 8, by omega⟩

/-- The matrix of cells is one where the pixel lies in the cell and zero elsewhere. -/
theorem g_eq (i : Fin 25) (R : Fin 200) : g i R = if cell R = i then 1 else 0 := by
  unfold g cell
  simp only [Fin.ext_iff]

/-- A cell row has eight pixels. -/
theorem g_sum (i : Fin 25) : ∑ R : Fin 200, g i R = 8 := by
  simp only [g_eq, Finset.sum_boole]
  have : ∀ i : Fin 25, (Finset.univ.filter fun R : Fin 200 => cell R = i).card = 8 := by decide +kernel
  rw [this i]
  norm_num

/-- A row of cells times the matrix gives every pixel its cell's entry. -/
theorem spread (P : Fin 25 → ℝ) (c : Fin 200) : ∑ k : Fin 25, P k * g k c = P (cell c) := by
  simp only [g_eq, mul_ite, mul_one, mul_zero, Finset.sum_ite_eq, Finset.mem_univ, if_true]

/-- Summing pixels into cells and weighting the cells is weighting every pixel by its cell. -/
theorem gather (u : Fin 200 → ℝ) (P : Fin 25 → ℝ) :
    ∑ i : Fin 25, (∑ R : Fin 200, g i R * u R) * P i = ∑ R : Fin 200, u R * P (cell R) := by
  simp only [Finset.sum_mul]
  rw [Finset.sum_comm]
  refine Finset.sum_congr rfl fun R _ => ?_
  simp only [g_eq, ite_mul, one_mul, zero_mul, Finset.sum_ite_eq, Finset.mem_univ, if_true]

/-- The loss summed by cells, weighted by each cell's count of set pixels, is the loss summed over the pixels. -/
theorem by_cells (t : Fin 200 → Fin 200 → ℝ) (P Q : Fin 25 → Fin 25 → ℝ) :
    (∑ i : Fin 25, ∑ c : Fin 200, (∑ R : Fin 200, g i R * t R c) * ∑ k : Fin 25, P i k * g k c)
      + ∑ i : Fin 25, ∑ c : Fin 200, (8 - ∑ R : Fin 200, g i R * t R c) * ∑ k : Fin 25, Q i k * g k c
    = ∑ R : Fin 200, ∑ C : Fin 200, (t R C * P (cell R) (cell C) + (1 - t R C) * Q (cell R) (cell C)) := by
  have e8 : ∀ (i : Fin 25) (c : Fin 200), (8 - ∑ R : Fin 200, g i R * t R c) = ∑ R : Fin 200, g i R * (1 - t R c) := fun i c => by
    rw [← g_sum i, ← Finset.sum_sub_distrib]
    exact Finset.sum_congr rfl fun R _ => by ring
  simp only [e8, spread]
  rw [Finset.sum_comm, Finset.sum_comm (f := fun (i : Fin 25) (c : Fin 200) => (∑ R : Fin 200, g i R * (1 - t R c)) * Q i (cell c)),
    Finset.sum_comm (f := fun (R C : Fin 200) => t R C * P (cell R) (cell C) + (1 - t R C) * Q (cell R) (cell C)),
    ← Finset.sum_add_distrib]
  refine Finset.sum_congr rfl fun c _ => ?_
  rw [gather (fun R => t R c) (fun i => P i (cell c)), gather (fun R => 1 - t R c) (fun i => Q i (cell c)), ← Finset.sum_add_distrib]

/-- The same among the extended reals, as the kernel writes it. -/
theorem kernel_sum (t : Fin 200 → Fin 200 → ℝ) (P Q : Fin 25 → Fin 25 → ℝ) (G : Fin 25 → Fin 200 → EReal)
    (T : Fin 200 → Fin 200 → EReal) (A B : Fin 25 → Fin 25 → EReal)
    (hG : ∀ i c, G i c = if c.val / 8 = i.val then 1 else 0) (hT : ∀ R C, T R C = (t R C : EReal))
    (hA : ∀ i k, A i k = (P i k : EReal)) (hB : ∀ i k, B i k = (Q i k : EReal)) :
    (0 : EReal) - ((∑ i : Fin 25, ∑ c : Fin 200, (∑ R : Fin 200, G i R * T R c) * ∑ k : Fin 25, A i k * G k c)
      + ∑ i : Fin 25, ∑ c : Fin 200, (Ideal.ofBits .f32 1090519040#32 - ∑ R : Fin 200, G i R * T R c) * ∑ k : Fin 25, B i k * G k c)
    = ((-∑ R : Fin 200, ∑ C : Fin 200, (t R C * P (cell R) (cell C) + (1 - t R C) * Q (cell R) (cell C)) : ℝ) : EReal) := by
  have hg : ∀ i c, G i c = (g i c : EReal) := fun i c => by
    rw [hG]; unfold g; split <;> simp
  simp only [hg, hT, hA, hB, eight_bits, ← EReal.coe_mul, ← coe_sum, ← EReal.coe_sub, ← EReal.coe_add]
  rw [by_cells, zero_sub, EReal.coe_neg]

/-- The same among the extended reals, as a sum over pixels. -/
theorem pixel_sum (t : Fin 200 → Fin 200 → ℝ) (P Q : Fin 25 → Fin 25 → ℝ) :
    ∑ R : Fin 200, ∑ C : Fin 200, ((t R C : EReal) * (P (cell R) (cell C) : EReal) + (1 - (t R C : EReal)) * (Q (cell R) (cell C) : EReal))
    = ((∑ R : Fin 200, ∑ C : Fin 200, (t R C * P (cell R) (cell C) + (1 - t R C) * Q (cell R) (cell C)) : ℝ) : EReal) := by
  have h1 : (1 : EReal) = ((1 : ℝ) : EReal) := rfl
  simp only [h1, ← EReal.coe_mul, ← coe_sum, ← EReal.coe_sub, ← EReal.coe_add]

/-- The cross entropy of a plane of labels against a plane of cells, summed over the pixels. -/
def pix (M : Fin 25 → Fin 25 → EReal) (y : Fin 200 → Fin 200 → EReal) : EReal :=
  ∑ R : Fin 200, ∑ C : Fin 200, (y R C * logC (M (cell R) (cell C)) + (1 - y R C) * log1C (M (cell R) (cell C)))

/-- A number that is no infinity is a real. -/
theorem real_of (x : EReal) (h : x ≠ ⊤ ∧ x ≠ ⊥) : ∃ r : ℝ, x = (r : EReal) :=
  ⟨x.toReal, (EReal.coe_toReal h.1 h.2).symm⟩

/-- On finite planes the cross entropy is a real, and it is the kernel's sum by cells with its sign changed. -/
theorem pix_kernel (M : Fin 25 → Fin 25 → EReal) (y : Fin 200 → Fin 200 → EReal)
    (hM : ∀ i j, M i j ≠ ⊤ ∧ M i j ≠ ⊥) (hy : ∀ R C, y R C ≠ ⊤ ∧ y R C ≠ ⊥)
    (G : Fin 25 → Fin 200 → EReal) (hG : ∀ i c, G i c = if c.val / 8 = i.val then 1 else 0) :
    ∃ s : ℝ, pix M y = (s : EReal) ∧
      (0 : EReal) - ((∑ i : Fin 25, ∑ c : Fin 200, (∑ R : Fin 200, G i R * y R c) * ∑ k : Fin 25, logC (M i k) * G k c)
        + ∑ i : Fin 25, ∑ c : Fin 200, (Ideal.ofBits .f32 1090519040#32 - ∑ R : Fin 200, G i R * y R c) * ∑ k : Fin 25, log1C (M i k) * G k c)
      = ((-s : ℝ) : EReal) := by
  choose t ht using fun R C => real_of (y R C) (hy R C)
  have hP : ∀ i j, ∃ s : ℝ, logC (M i j) = (s : EReal) := fun i j => by
    obtain ⟨r, hr⟩ := real_of (M i j) (hM i j)
    rw [hr]; exact logC_real r
  have hQ : ∀ i j, ∃ s : ℝ, log1C (M i j) = (s : EReal) := fun i j => by
    obtain ⟨r, hr⟩ := real_of (M i j) (hM i j)
    rw [hr]; exact log1C_real r
  choose P hP using hP
  choose Q hQ using hQ
  refine ⟨_, ?_, kernel_sum t P Q G y (fun i j => logC (M i j)) (fun i j => log1C (M i j)) hG ht hP hQ⟩
  rw [← pixel_sum]
  unfold pix
  simp only [ht, hP, hQ]

/-- The pattern of 80000.0. -/
theorem count_bits : Ideal.ofBits .f32 1201422336#32 = ((80000 : ℝ) : EReal) := by
  simp [Ideal.ofBits, Ideal.ieee, -EReal.coe_mul]; norm_num

/-- The pattern of 4.0. -/
theorem four_bits : Ideal.ofBits .f32 1082130432#32 = ((4 : ℝ) : EReal) := by
  simp [Ideal.ofBits, Ideal.ieee, -EReal.coe_mul]; norm_num

/-- The mean over the two planes, the sign changed before or after. -/
theorem mean_neg (s : Fin 2 → ℝ) :
    Ideal.div (∑ b : Fin 2, ((-s b : ℝ) : EReal)) (Ideal.ofBits .f32 1201422336#32)
      = -Ideal.div (∑ b : Fin 2, ((s b : ℝ) : EReal)) (Ideal.ofBits .f32 1201422336#32) := by
  rw [count_bits, Ideal.div_coe (by norm_num), Ideal.div_coe (by norm_num), ← coe_sum, ← coe_sum, ← EReal.coe_mul, ← EReal.coe_mul,
    ← EReal.coe_neg, Finset.sum_neg_distrib, neg_mul]

end Cert.Bce

end
-- ==== Proof.KBce.lean ====
module

public import proofs.«01_k».proof.Proof.Bce
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KBce

open Idealize.ShloMosaic Idealize.ShloMosaic.TcCoe
open Cert.KernelIdeal Cert.KernelIdeal.Gen
open Cert.Bce

/-- A 0/1 word read as a float is 0 or 1. -/
theorem sitofp_bit (E : IVec S25x200 32) (C : Fin 25 → Fin 200 → Prop) [∀ r c, Decidable (C r c)]
    (h : ∀ r c, E (ix2 r c) = if C r c then 1#32 else 0#32) (r : Fin 25) (c : Fin 200) :
    (sitofp (F := Ideal) .f32 E (ix2 r c) : EReal) = if C r c then 1 else 0 := by
  show ((((E (ix2 r c)).toInt : ℤ) : ℝ) : EReal) = _
  rw [h]
  split <;> simp

/-- The grouping matrix: row `i` marks the eight pixels of cell `i`. -/
theorem group_at (i : Fin 25) (c : Fin 200) :
    ((k1_pay6 (F := Ideal)) (ix2 i c) : EReal) = if c.val / 8 = i.val then 1 else 0 := by
  unfold k1_pay6
  refine sitofp_bit _ (fun i c => c.val / 8 = i.val) (fun i c => ?_) i c
  pointwise []
  revert i c
  decide +kernel

/-- The block the loss body leaves, spelt out. -/
theorem pay_at (t : FVec Ideal S200x200 .f32) (P Q : FVec Ideal S25x25 .f32) (g z : FVec Ideal S25x200 .f32) (hz : z = constant S25x200 .f32 0x00000000#32) :
    (k1_pay1 (F := Ideal) t P Q g z (ix3 (0 : Fin 1) (0 : Fin 1) (0 : Fin 1)) : EReal)
      = 0 - ((∑ i : Fin 25, ∑ c : Fin 200, (∑ R : Fin 200, (g (ix2 i R) : EReal) * t (ix2 R c)) * ∑ k : Fin 25, (P (ix2 i k) : EReal) * g (ix2 k c))
        + ∑ i : Fin 25, ∑ c : Fin 200, (Ideal.ofBits .f32 1090519040#32 - ∑ R : Fin 200, (g (ix2 i R) : EReal) * t (ix2 R c)) * ∑ k : Fin 25, (Q (ix2 i k) : EReal) * g (ix2 k c)) := by
  subst hz
  pointwise [k1_pay1]

/-- The clamped logarithm of the mask. -/
theorem pay4_at (x : FVec Ideal S1x25x25 .f32) (i j : Fin 25) :
    (k1_pay4 (F := Ideal) x (ix2 i j) : EReal) = logC (x (ix3 (0 : Fin 1) i j)) := by
  unfold logC
  pointwise [k1_pay4, k1_pay2]

/-- The clamped logarithm of one less the mask. -/
theorem pay5_at (x : FVec Ideal S1x25x25 .f32) (i j : Fin 25) :
    (k1_pay5 (F := Ideal) x (ix2 i j) : EReal) = log1C (x (ix3 (0 : Fin 1) i j)) := by
  unfold log1C
  rw [← zero_sub]
  pointwise [k1_pay5, k1_pay2]

/-- The label plane. -/
theorem pay3_at (x : FVec Ideal S1x1x200x200 .f32) (R C : Fin 200) :
    (k1_pay3 (F := Ideal) x (ix2 R C) : EReal) = x (ix4 (0 : Fin 1) (0 : Fin 1) R C) := by
  pointwise [k1_pay3]

/-- The loss block of one batch: the negated cross entropy of its two planes. -/
theorem out_at (x0 : FVec Ideal S1x25x25 .f32) (x1 : FVec Ideal S1x1x200x200 .f32) (M : Fin 25 → Fin 25 → EReal) (Y : Fin 200 → Fin 200 → EReal)
    (hx0 : ∀ i j, (x0 (ix3 (0 : Fin 1) i j) : EReal) = M i j) (hx1 : ∀ R C, (x1 (ix4 (0 : Fin 1) (0 : Fin 1) R C) : EReal) = Y R C)
    (hM : ∀ i j, M i j ≠ ⊤ ∧ M i j ≠ ⊥) (hY : ∀ R C, Y R C ≠ ⊤ ∧ Y R C ≠ ⊥) :
    ∃ s : ℝ, pix M Y = (s : EReal) ∧ ∀ y : S1x1x1.Idx, (out1_2 (F := Ideal) x0 x1 y : EReal) = ((-s : ℝ) : EReal) := by
  obtain ⟨s, h1, h2⟩ := pix_kernel M Y hM hY (fun i c => k1_pay6 (F := Ideal) (ix2 i c)) group_at
  refine ⟨s, h1, fun y => ?_⟩
  have ey : y = ix3 (0 : Fin 1) (0 : Fin 1) (0 : Fin 1) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
  rw [ey, ← h2]
  have hl0 : View.ld (Val := Elt Ideal) (e' := .f32) x0 r1_0 = x0 := View.ld_unit_lit _ _ (by decide)
  have hl1 : View.ld (Val := Elt Ideal) (e' := .f32) x1 r1_1 = x1 := View.ld_unit_lit _ _ (by decide)
  have e := pay_at (k1_pay3 x1) (k1_pay4 x0) (k1_pay5 x0) k1_pay6 _ rfl
  simp only [pay3_at, pay4_at, pay5_at, hx0, hx1] at e
  refine Eq.trans ?_ e
  unfold out1_2
  rw [hl0, hl1]
  exact congrFun (View.canon_cons_unit_lit (S := S1x1x1) _ _ _ (by decide)) _

end Cert.KBce

end
-- ==== Proof.KLoss.lean ====
module

public import proofs.«01_k».proof.Proof.KMask
public import proofs.«01_k».proof.Proof.KBce

@[expose] public section

set_option maxRecDepth 16384

noncomputable section

namespace Cert.KLoss

open Idealize.ShloMosaic Idealize.ShloMosaic.TcCoe
open Cert.KernelIdeal Cert.KernelIdeal.Gen
open Cert.FirstMax Cert.Spec Cert.KMask Cert.Bce

variable (m : (ℓ : Loc nD τ sig) → Buf (Elt Ideal) ℓ) (ρ : Dev nD → PrngReg)

/-- The label planes of the launch memory: the first channel of each batch. -/
def labelOf (c : Dev nD) : Fin 2 → Fin 200 → Fin 200 → EReal :=
  fun b R C => (m ((c : Thread nD τ).loc main_arg1) : FVec Ideal S2x4x200x200 .f32) (ix4 b (0 : Fin 4) R C)

/-- The plane of cells of one batch. -/
def cells (att : Fin 8 → Fin 625 → Fin 40320 → EReal) (ood : Fin 2 → Fin 40320 → EReal) (b : Fin 2) : Fin 25 → Fin 25 → EReal :=
  fun i j => mask att ood b ⟨25 * i.val + j.val, by omega⟩

/-- The mask the loss region reads. -/
theorem v6_at (c : Dev nD) (hatt : ∀ a q p, attOf m c a q p ≠ ⊤ ∧ attOf m c a q p ≠ ⊥) (b : Fin 2) (i j : Fin 25) :
    ((V3 m ρ c main_v6 : FVec Ideal S2x25x25 .f32) (ix3 b i j) : EReal) = cells (attOf m c) (oodOf m c) b i j := by
  show ((StableHlo.after hostOps1 (W2 m ρ c) (Proc.devRef .tc main_v6) : FVec Ideal S2x25x25 .f32) (ix3 b i j) : EReal) = _
  have e : (W2 m ρ c (Proc.devRef .tc main_v3) : FVec Ideal S126x2x5 .f32) = _ := (W2_arr m ρ c 4).trans (v3_arr m ρ c hatt)
  entry_read
  rw [e]
  unfold cells
  pointwise []
  congr 1
  apply Fin.ext
  show 5 * min (i.val * 5 + j.val / 5) 124 + j.val % 5 = 25 * i.val + j.val
  omega

/-- The block of the mask staged for a batch. -/
theorem widx0 : ∀ t : Fin cfg1.N, win1_0.index t = ![t.val, 0, 0] :=
  (by decide +kernel : ∀ t : Fin grid1.N, win1_0.index t = ![t.val, 0, 0])
/-- The block of the labels staged for a batch. -/
theorem widx1 : ∀ t : Fin cfg1.N, win1_1.index t = ![t.val, 0, 0, 0] :=
  (by decide +kernel : ∀ t : Fin grid1.N, win1_1.index t = ![t.val, 0, 0, 0])
/-- The block of the losses written for a batch. -/
theorem widx2 : ∀ t : Fin cfg1.N, win1_2.index t = ![t.val, 0, 0] :=
  (by decide +kernel : ∀ t : Fin grid1.N, win1_2.index t = ![t.val, 0, 0])

/-- The loss region's grid has two points. -/
theorem t1_lt (t : Fin cfg1.N) : t.val < 2 := lt_of_lt_of_eq t.isLt (by decide : grid1.N = 2)

/-- The array the loss region leaves: per batch, the negated cross entropy. -/
theorem v7_arr (c : Dev nD) (hatt : ∀ a q p, attOf m c a q p ≠ ⊤ ∧ attOf m c a q p ≠ ⊥)
    (hood : ∀ b p, oodOf m c b p ≠ ⊤ ∧ oodOf m c b p ≠ ⊥) (hy : ∀ b R C, labelOf m c b R C ≠ ⊤ ∧ labelOf m c b R C ≠ ⊥) :
    ∃ s : Fin 2 → ℝ, (∀ b, pix (cells (attOf m c) (oodOf m c) b) (labelOf m c b) = (s b : EReal)) ∧
      ((dat1 (V3 m ρ) c).arrAt 2 cfg1.N : FVec Ideal S2x1x1 .f32) = fun i => ((-s (i 0) : ℝ) : EReal) := by
  have H : ∀ t : Fin cfg1.N, ∃ s : ℝ, pix (cells (attOf m c) (oodOf m c) ⟨t.val, t1_lt t⟩) (labelOf m c ⟨t.val, t1_lt t⟩) = (s : EReal) ∧
      ∀ y : S1x1x1.Idx, (out1_2 (F := Ideal) (iblk1 (V3 m ρ) c 0 t) (iblk1 (V3 m ρ) c 1 t) y : EReal) = ((-s : ℝ) : EReal) := fun t => by
    refine KBce.out_at _ _ _ _ (fun i j => ?_) (fun R C => ?_) (fun i j => hood _ _) (fun R C => hy _ _ _)
    · rw [← v6_at m ρ c hatt]
      show V3 m ρ c main_v6 ((win1_0.blk t).view.emb (ix3 (0 : Fin 1) i j)) = _
      congr 1
      blk_ext [widx0 t]
    · have e : V3 m ρ c main_arg1 = m ((c : Thread nD τ).loc main_arg1) := W3_args m ρ c main_arg1 (by decide)
      unfold labelOf
      rw [← e]
      show V3 m ρ c main_arg1 ((win1_1.blk t).view.emb (ix4 (0 : Fin 1) (0 : Fin 1) R C)) = _
      congr 1
      blk_ext [widx1 t]
  choose s h1 h2 using H
  refine ⟨fun b => s ⟨b.val, lt_of_lt_of_eq b.isLt (by decide : 2 = grid1.N)⟩, fun b => h1 _, ?_⟩
  refine (dat1 (V3 m ρ) c).arrAt_eq_of_covers 2 _ (by decide +kernel) fun t hf y => ?_
  blk_simp
  rw [after1_2, h2]
  exact congrArg (fun t : Fin cfg1.N => ((-s t : ℝ) : EReal)) (Fin.ext (by show t.val = win1_2.index t 0; rw [widx2 t]; rfl))

/-- The kernel's result. -/
theorem v9_eq (c : Dev nD) (hatt : ∀ a q p, attOf m c a q p ≠ ⊤ ∧ attOf m c a q p ≠ ⊥)
    (hood : ∀ b p, oodOf m c b p ≠ ⊤ ∧ oodOf m c b p ≠ ⊥) (hy : ∀ b R C, labelOf m c b R C ≠ ⊤ ∧ labelOf m c b R C ≠ ⊥) :
    (W5 m ρ c (Proc.devRef .tc main_v9) : FVec Ideal S_ .f32)
      = fun _ => -Ideal.div (∑ b : Fin 2, pix (cells (attOf m c) (oodOf m c) b) (labelOf m c b)) (Ideal.ofBits .f32 1201422336#32) := by
  obtain ⟨s, h1, h2⟩ := v7_arr m ρ c hatt hood hy
  funext i
  show ((StableHlo.after hostOps2 (W4 m ρ c) (Proc.devRef .tc main_v9) : FVec Ideal S_ .f32) i : EReal) = _
  have e : (W4 m ρ c (Proc.devRef .tc main_v7) : FVec Ideal S2x1x1 .f32) = _ := (W4_arr m ρ c 2).trans h2
  entry_read
  rw [e]
  simp only [h1]
  rw [← mean_neg]
  pointwise []
  simp only [Finset.univ_unique, Finset.sum_singleton]

end Cert.KLoss

end
-- ==== Proof.KRun.lean ====
module

public import proofs.«01_k».proof.Proof.KLoss

@[expose] public section

set_option maxRecDepth 16384

noncomputable section

namespace Cert.KRun

open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open Idealize.ShloMosaic.Rounds
open Idealize.ShloMosaic.Pipeline (cellOf)
open scoped Idealize.SL.BI
open Cert.KernelIdeal Cert.KernelIdeal.Gen

variable (m : (ℓ : Loc nD τ sig) → Buf (Elt Ideal) ℓ) (ρ : Dev nD → PrngReg)

set_option backward.isDefEq.respectTransparency.types false in
/-- The kernel runs to an end at which every buffer that outlives the launch holds the last boundary's contents. -/
theorem ends : θ_run (defs (F := Ideal)) (onTc (τ := τ) (main (F := Ideal))) ⟨m, fun _ => 0, ρ⟩
    (fun r => ∀ c : Dev nD, ∀ b ∈ Pipeline.ucRefs τ sig, r.2.mem (c, b) = W5 m ρ c b) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?user)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, ?last⟩) (hinit := ?first)
    (QY := fun c s => ∀ b ∈ Pipeline.ucRefs τ sig, s.mem (c, b) = W5 m ρ c b) (hfin := ?read) (hQ := fun s h _ c b hb => h c b hb)
  case user =>
    have o : (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) := .rfl
    iintro H
    imodintro
    isplitl [H]
    · iapply o
      iexact H
    · have e : (BI.emp : sProp (MT nD τ sig Unit (Elt Ideal) ℕ (UR sig nD τ) ℕ)) ⊢ bigSep Finset.univ fun _ : Dev nD => BI.emp := by
        rw [BI.bigSep_emp_const]
      iapply e
      iempintro
  case last =>
    intro c
    dsimp only [Pipeline.Seg.post, hseg, Pipeline.HostSeg.ofOps]
    iintro ⟨H, P, O⟩
    isplitl [H P]
    · isplitl [H]
      · iexact H
      · iexact P
    · iexact O
  case first =>
    refine Pipeline.initEach L lv fun c => ?_
    have e : (unscopedBufs c (fun b => m ((c : Thread nD τ).loc b)) : sProp (MT nD τ sig Unit (Elt Ideal) ℕ (UR sig nD τ) ℕ)) = StableHlo.held (c : Thread nD τ) (Pipeline.ucRefs τ sig) (W0 m ρ c) :=
      Pipeline.unscopedBufs_held c (W0 m ρ c)
    rw [e]
    iintro ⟨⟨H, -, O, -, P, -⟩, -⟩
    imodintro
    isplitl [H]
    · iexact H
    isplitl [P]
    · iexists _
      iexact P
    · iexists ∅
      iexact O
  case read =>
    intro c s'
    iintro ⟨⟨H, -⟩, S⟩
    unfold StableHlo.held
    imodintro
    iapply (pointsTo_read_all (Pipeline.ucRefs τ sig) (fun b => (c, b)) (W5 m ρ c) s')
    isplitl [H] <;> iassumption

/-- The kernel's run: the result is the loss computed, and the arguments are as launched. -/
theorem run : θ_run (defs (F := Ideal)) (onTc (τ := τ) (main (F := Ideal))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ?_) (ends m ρ)
  have a : ∀ b ∈ argRefs, r.2.mem ((c.tc : Thread nD τ).loc b) = m ((c.tc : Thread nD τ).loc b) := fun b hb =>
    (h c _ (mem_uc b (by revert b; decide))).trans (W5_args m ρ c b hb)
  exact ⟨h c _ (mem_uc main_v9 (by decide)), a _ (by decide), a _ (by decide), a _ (by decide), a _ (by decide), a _ (by decide), a _ (by decide)⟩

end Cert.KRun

end
-- ==== Proof.ROps.lean ====
module

public import proofs.«01_k».proof.Proof.Gen.ReferenceIdeal
public import Idealize.ShloMosaic.PureOps.Ideal.Laws
public import Idealize.ShloMosaic.Lib.Claim
public import Idealize.ShloMosaic.Lib.StableHlo.RunRead
public import Idealize.ShloMosaic.Lib.Pipeline.Regions

@[expose] public section

set_option maxRecDepth 16384

noncomputable section

namespace Cert.ROps

open Idealize.ShloMosaic Idealize.ShloMosaic.TcCoe
open Cert.ReferenceIdeal Cert.ReferenceIdeal.Gen

variable {F : FTy → Type} [FloatOps F]

/-- The reference's operations, part 0: the averaged heads and the position of each cell's largest. -/
def ops0 : List (HloOp τ sig (Elt F)) :=
  [ StableHlo.reshape main_arg4 main_v0 (rfl : (.f32 : EltTy) = .f32) shapeCasts_S8x625x40320_S2x4x25x25x6x56x120,
    StableHlo.nullary main_cst (constant S_ .f32 0x00000000#32),
    StableHlo.binary main_v0 main_cst main_v1 ((fun x v => Host.reduceAdd x v reducesTo_S2x4x25x25x6x56x120_S2x25x25x6x56x120_d1 h_S_) : (⟨S2x4x25x25x6x56x120, .f32⟩ : BufTy).Contents (Elt F) → (⟨S_, .f32⟩ : BufTy).Contents (Elt F) → (⟨S2x25x25x6x56x120, .f32⟩ : BufTy).Contents (Elt F)),
    StableHlo.nullary main_cst_0 (constant S_ .f32 0x40800000#32),
    StableHlo.unary main_cst_0 main_v2 (broadcastInDim S2x25x25x6x56x120 ![] bcast_S_S2x25x25x6x56x120 : (⟨S_, .f32⟩ : BufTy).Contents (Elt F) → (⟨S2x25x25x6x56x120, .f32⟩ : BufTy).Contents (Elt F)),
    StableHlo.binary main_v1 main_v2 main_v3 (Host.divf : (⟨S2x25x25x6x56x120, .f32⟩ : BufTy).Contents (Elt F) → (⟨S2x25x25x6x56x120, .f32⟩ : BufTy).Contents (Elt F) → (⟨S2x25x25x6x56x120, .f32⟩ : BufTy).Contents (Elt F)),
    StableHlo.reshape main_v3 main_v4 (rfl : (.f32 : EltTy) = .f32) shapeCasts_S2x25x25x6x56x120_S2x25x25x40320,
    StableHlo.TRef.nullary main_call0.v0 (iotaInDim S2x25x25x40320 32 3),
    StableHlo.TRef.nullary main_call0.cst (constant S_ .f32 0xFF800000#32),
    StableHlo.TRef.nullary main_call0.c (constantI S_ 32 0#32),
    StableHlo.TRef.quaternary (.of main_v4) main_call0.v0 main_call0.cst main_call0.c main_call0.v1_0 (fun x y u v j => (Host.argReduce reducer_argmax_f32_i32 x y u v reducesTo_S2x25x25x40320_S2x25x25_d3 h_S_ j).1),
    StableHlo.TRef.quaternary (.of main_v4) main_call0.v0 main_call0.cst main_call0.c main_call0.v1_1 (fun x y u v j => (Host.argReduce reducer_argmax_f32_i32 x y u v reducesTo_S2x25x25x40320_S2x25x25_d3 h_S_ j).2) ]

/-- The reference's operations, part 1: the camera's number. -/
def ops1 : List (HloOp τ sig (Elt F)) :=
  [ StableHlo.nullary main_c (constantI S_ 32 6720#32),
    StableHlo.TRef.unary (.of main_c) main_call1.v0 id,
    StableHlo.TRef.unary main_call1.v0 main_call1.v1 (broadcastInDim S2x25x25 ![] bcast_S_S2x25x25),
    StableHlo.TRef.binary (.of main_v5) main_call1.v1 main_call1.v2 Host.divsi,
    StableHlo.TRef.unary (.of main_v5) main_call1.v3 signi,
    StableHlo.TRef.unary main_call1.v0 main_call1.v4 signi,
    StableHlo.TRef.unary main_call1.v4 main_call1.v5 (broadcastInDim S2x25x25 ![] bcast_S_S2x25x25),
    StableHlo.TRef.binary main_call1.v3 main_call1.v5 main_call1.v6 (cmpi .ne),
    StableHlo.TRef.unary main_call1.v0 main_call1.v7 (broadcastInDim S2x25x25 ![] bcast_S_S2x25x25),
    StableHlo.TRef.binary (.of main_v5) main_call1.v7 main_call1.v8 Host.remsi,
    StableHlo.TRef.nullary main_call1.c (constantI S_ 32 0#32),
    StableHlo.TRef.unary main_call1.c main_call1.v9 (broadcastInDim S2x25x25 ![] bcast_S_S2x25x25),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S2x25x25 ![] bcast_S_S2x25x25),
    StableHlo.TRef.binary main_call1.v2 main_call1.v12 main_call1.v13 subi,
    StableHlo.TRef.ternary main_call1.v11 main_call1.v13 main_call1.v2 main_call1.call0.v0 select ]

/-- The reference's operations, part 2: what is left of the position within the camera. -/
def ops2 : List (HloOp τ sig (Elt F)) :=
  [ StableHlo.nullary main_c_1 (constantI S_ 32 6720#32),
    StableHlo.TRef.unary (.of main_c_1) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S2x25x25 ![] bcast_S_S2x25x25),
    StableHlo.TRef.binary (.of main_v5) main_call2.v3 main_call2.v4 Host.remsi,
    StableHlo.TRef.nullary main_call2.c_1 (constantI S_ 32 0#32),
    StableHlo.TRef.unary main_call2.c_1 main_call2.v5 (broadcastInDim S2x25x25 ![] bcast_S_S2x25x25),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S2x25x25 ![] bcast_S_S2x25x25),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S2x25x25 ![] bcast_S_S2x25x25),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S2x25x25 ![] bcast_S_S2x25x25),
    StableHlo.TRef.binary main_call2.v4 main_call2.v13 main_call2.v14 addi,
    StableHlo.TRef.ternary main_call2.v12 main_call2.v14 main_call2.v4 main_call2.v15 select ]

/-- The reference's operations, part 3: the row. -/
def ops3 : List (HloOp τ sig (Elt F)) :=
  [ StableHlo.nullary main_c_2 (constantI S_ 32 120#32),
    StableHlo.TRef.unary (.of main_c_2) main_call3.v0 id,
    StableHlo.TRef.unary main_call3.v0 main_call3.v1 (broadcastInDim S2x25x25 ![] bcast_S_S2x25x25),
    StableHlo.TRef.binary (.of main_v7) main_call3.v1 main_call3.v2 Host.divsi,
    StableHlo.TRef.unary (.of main_v7) main_call3.v3 signi,
    StableHlo.TRef.unary main_call3.v0 main_call3.v4 signi,
    StableHlo.TRef.unary main_call3.v4 main_call3.v5 (broadcastInDim S2x25x25 ![] bcast_S_S2x25x25),
    StableHlo.TRef.binary main_call3.v3 main_call3.v5 main_call3.v6 (cmpi .ne),
    StableHlo.TRef.unary main_call3.v0 main_call3.v7 (broadcastInDim S2x25x25 ![] bcast_S_S2x25x25),
    StableHlo.TRef.binary (.of main_v7) main_call3.v7 main_call3.v8 Host.remsi,
    StableHlo.TRef.nullary main_call3.c (constantI S_ 32 0#32),
    StableHlo.TRef.unary main_call3.c main_call3.v9 (broadcastInDim S2x25x25 ![] bcast_S_S2x25x25),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S2x25x25 ![] bcast_S_S2x25x25),
    StableHlo.TRef.binary main_call3.v2 main_call3.v12 main_call3.v13 subi,
    StableHlo.TRef.ternary main_call3.v11 main_call3.v13 main_call3.v2 main_call3.call0.v0 select ]

/-- The reference's operations, part 4: the column. -/
def ops4 : List (HloOp τ sig (Elt F)) :=
  [ StableHlo.nullary main_c_3 (constantI S_ 32 120#32),
    StableHlo.TRef.unary (.of main_c_3) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S2x25x25 ![] bcast_S_S2x25x25),
    StableHlo.TRef.binary (.of main_v7) main_call4.v3 main_call4.v4 Host.remsi,
    StableHlo.TRef.nullary main_call4.c_1 (constantI S_ 32 0#32),
    StableHlo.TRef.unary main_call4.c_1 main_call4.v5 (broadcastInDim S2x25x25 ![] bcast_S_S2x25x25),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S2x25x25 ![] bcast_S_S2x25x25),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S2x25x25 ![] bcast_S_S2x25x25),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S2x25x25 ![] bcast_S_S2x25x25),
    StableHlo.TRef.binary main_call4.v4 main_call4.v13 main_call4.v14 addi,
    StableHlo.TRef.ternary main_call4.v12 main_call4.v14 main_call4.v4 main_call4.v15 select ]

/-- The reference's operations, part 5: the look-up. -/
def ops5 : List (HloOp τ sig (Elt F)) :=
  [ StableHlo.nullary main_v10 (iotaInDim S2 32 0),
    StableHlo.unary main_v10 main_v11 (broadcastInDim S2x1x1 ![0] bcast_S2_S2x1x1_0 : (⟨S2, .i32⟩ : BufTy).Contents (Elt F) → (⟨S2x1x1, .i32⟩ : BufTy).Contents (Elt F)),
    StableHlo.nullary main_c_4 (constantI S_ 32 0#32),
    StableHlo.unary main_c_4 main_v12 (broadcastInDim S2x1x1 ![] bcast_S_S2x1x1 : (⟨S_, .i32⟩ : BufTy).Contents (Elt F) → (⟨S2x1x1, .i32⟩ : BufTy).Contents (Elt F)),
    StableHlo.binary main_v11 main_v12 main_v13 (cmpi .slt : (⟨S2x1x1, .i32⟩ : BufTy).Contents (Elt F) → (⟨S2x1x1, .i32⟩ : BufTy).Contents (Elt F) → (⟨S2x1x1, .i1⟩ : BufTy).Contents (Elt F)),
    StableHlo.nullary main_c_5 (constantI S_ 32 2#32),
    StableHlo.unary main_c_5 main_v14 (broadcastInDim S2x1x1 ![] bcast_S_S2x1x1 : (⟨S_, .i32⟩ : BufTy).Contents (Elt F) → (⟨S2x1x1, .i32⟩ : BufTy).Contents (Elt F)),
    StableHlo.binary main_v11 main_v14 main_v15 (addi : (⟨S2x1x1, .i32⟩ : BufTy).Contents (Elt F) → (⟨S2x1x1, .i32⟩ : BufTy).Contents (Elt F) → (⟨S2x1x1, .i32⟩ : BufTy).Contents (Elt F)),
    StableHlo.ternary main_v13 main_v15 main_v11 main_v16 (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F)),
    StableHlo.nullary main_c_6 (constantI S_ 32 0#32),
    StableHlo.unary main_c_6 main_v17 (broadcastInDim S2x25x25 ![] bcast_S_S2x25x25 : (⟨S_, .i32⟩ : BufTy).Contents (Elt F) → (⟨S2x25x25, .i32⟩ : BufTy).Contents (Elt F)),
    StableHlo.binary main_v6 main_v17 main_v18 (cmpi .slt : (⟨S2x25x25, .i32⟩ : BufTy).Contents (Elt F) → (⟨S2x25x25, .i32⟩ : BufTy).Contents (Elt F) → (⟨S2x25x25, .i1⟩ : BufTy).Contents (Elt F)),
    StableHlo.nullary main_c_7 (constantI S_ 32 6#32),
    StableHlo.unary main_c_7 main_v19 (broadcastInDim S2x25x25 ![] bcast_S_S2x25x25 : (⟨S_, .i32⟩ : BufTy).Contents (Elt F) → (⟨S2x25x25, .i32⟩ : BufTy).Contents (Elt F)),
    StableHlo.binary main_v6 main_v19 main_v20 (addi : (⟨S2x25x25, .i32⟩ : BufTy).Contents (Elt F) → (⟨S2x25x25, .i32⟩ : BufTy).Contents (Elt F) → (⟨S2x25x25, .i32⟩ : BufTy).Contents (Elt F)),
    StableHlo.ternary main_v18 main_v20 main_v6 main_v21 (select : (⟨S2x25x25, .i1⟩ : BufTy).Contents (Elt F) → (⟨S2x25x25, .i32⟩ : BufTy).Contents (Elt F) → (⟨S2x25x25, .i32⟩ : BufTy).Contents (Elt F) → (⟨S2x25x25, .i32⟩ : BufTy).Contents (Elt F)),
    StableHlo.nullary main_c_8 (constantI S_ 32 0#32),
    StableHlo.unary main_c_8 main_v22 (broadcastInDim S2x25x25 ![] bcast_S_S2x25x25 : (⟨S_, .i32⟩ : BufTy).Contents (Elt F) → (⟨S2x25x25, .i32⟩ : BufTy).Contents (Elt F)),
    StableHlo.binary main_v8 main_v22 main_v23 (cmpi .slt : (⟨S2x25x25, .i32⟩ : BufTy).Contents (Elt F) → (⟨S2x25x25, .i32⟩ : BufTy).Contents (Elt F) → (⟨S2x25x25, .i1⟩ : BufTy).Contents (Elt F)),
    StableHlo.nullary main_c_9 (constantI S_ 32 56#32),
    StableHlo.unary main_c_9 main_v24 (broadcastInDim S2x25x25 ![] bcast_S_S2x25x25 : (⟨S_, .i32⟩ : BufTy).Contents (Elt F) → (⟨S2x25x25, .i32⟩ : BufTy).Contents (Elt F)),
    StableHlo.binary main_v8 main_v24 main_v25 (addi : (⟨S2x25x25, .i32⟩ : BufTy).Contents (Elt F) → (⟨S2x25x25, .i32⟩ : BufTy).Contents (Elt F) → (⟨S2x25x25, .i32⟩ : BufTy).Contents (Elt F)),
    StableHlo.ternary main_v23 main_v25 main_v8 main_v26 (select : (⟨S2x25x25, .i1⟩ : BufTy).Contents (Elt F) → (⟨S2x25x25, .i32⟩ : BufTy).Contents (Elt F) → (⟨S2x25x25, .i32⟩ : BufTy).Contents (Elt F) → (⟨S2x25x25, .i32⟩ : BufTy).Contents (Elt F)),
    StableHlo.nullary main_c_10 (constantI S_ 32 0#32),
    StableHlo.unary main_c_10 main_v27 (broadcastInDim S2x25x25 ![] bcast_S_S2x25x25 : (⟨S_, .i32⟩ : BufTy).Contents (Elt F) → (⟨S2x25x25, .i32⟩ : BufTy).Contents (Elt F)),
    StableHlo.binary main_v9 main_v27 main_v28 (cmpi .slt : (⟨S2x25x25, .i32⟩ : BufTy).Contents (Elt F) → (⟨S2x25x25, .i32⟩ : BufTy).Contents (Elt F) → (⟨S2x25x25, .i1⟩ : BufTy).Contents (Elt F)),
    StableHlo.nullary main_c_11 (constantI S_ 32 120#32),
    StableHlo.unary main_c_11 main_v29 (broadcastInDim S2x25x25 ![] bcast_S_S2x25x25 : (⟨S_, .i32⟩ : BufTy).Contents (Elt F) → (⟨S2x25x25, .i32⟩ : BufTy).Contents (Elt F)),
    StableHlo.binary main_v9 main_v29 main_v30 (addi : (⟨S2x25x25, .i32⟩ : BufTy).Contents (Elt F) → (⟨S2x25x25, .i32⟩ : BufTy).Contents (Elt F) → (⟨S2x25x25, .i32⟩ : BufTy).Contents (Elt F)),
    StableHlo.ternary main_v28 main_v30 main_v9 main_v31 (select : (⟨S2x25x25, .i1⟩ : BufTy).Contents (Elt F) → (⟨S2x25x25, .i32⟩ : BufTy).Contents (Elt F) → (⟨S2x25x25, .i32⟩ : BufTy).Contents (Elt F) → (⟨S2x25x25, .i32⟩ : BufTy).Contents (Elt F)),
    StableHlo.unary main_v16 main_v32 (broadcastInDim S2x25x25 ![0, 1, 2] bcast_S2x1x1_S2x25x25_0_1_2 : (⟨S2x1x1, .i32⟩ : BufTy).Contents (Elt F) → (⟨S2x25x25, .i32⟩ : BufTy).Contents (Elt F)),
    StableHlo.unary main_v32 main_v33 (broadcastInDim S2x25x25x1 ![0, 1, 2] bcast_S2x25x25_S2x25x25x1_0_1_2 : (⟨S2x25x25, .i32⟩ : BufTy).Contents (Elt F) → (⟨S2x25x25x1, .i32⟩ : BufTy).Contents (Elt F)),
    StableHlo.unary main_v21 main_v34 (broadcastInDim S2x25x25x1 ![0, 1, 2] bcast_S2x25x25_S2x25x25x1_0_1_2 : (⟨S2x25x25, .i32⟩ : BufTy).Contents (Elt F) → (⟨S2x25x25x1, .i32⟩ : BufTy).Contents (Elt F)),
    StableHlo.unary main_v26 main_v35 (broadcastInDim S2x25x25x1 ![0, 1, 2] bcast_S2x25x25_S2x25x25x1_0_1_2 : (⟨S2x25x25, .i32⟩ : BufTy).Contents (Elt F) → (⟨S2x25x25x1, .i32⟩ : BufTy).Contents (Elt F)),
    StableHlo.unary main_v31 main_v36 (broadcastInDim S2x25x25x1 ![0, 1, 2] bcast_S2x25x25_S2x25x25x1_0_1_2 : (⟨S2x25x25, .i32⟩ : BufTy).Contents (Elt F) → (⟨S2x25x25x1, .i32⟩ : BufTy).Contents (Elt F)),
    StableHlo.nary ![main_v33, main_v34, main_v35, main_v36] main_v37 (fun u => (concatenate S2x25x25x4 3 [⟨S2x25x25x1, (u 0 : (⟨S2x25x25x1, .i32⟩ : BufTy).Contents (Elt F))⟩, ⟨S2x25x25x1, (u 1 : (⟨S2x25x25x1, .i32⟩ : BufTy).Contents (Elt F))⟩, ⟨S2x25x25x1, (u 2 : (⟨S2x25x25x1, .i32⟩ : BufTy).Contents (Elt F))⟩, ⟨S2x25x25x1, (u 3 : (⟨S2x25x25x1, .i32⟩ : BufTy).Contents (Elt F))⟩] concatenates_S2x25x25x1_S2x25x25x1_S2x25x25x1_S2x25x25x1_S2x25x25x4_d3 : (⟨S2x25x25x4, .i32⟩ : BufTy).Contents (Elt F))),
    StableHlo.binary main_arg3 main_v37 main_v38 ((fun x i => Host.gather gather_S2x6x56x120_S2x25x25x4_S2x25x25_n_0123_n_n_0123_3_1111 x i) : (⟨S2x6x56x120, .f32⟩ : BufTy).Contents (Elt F) → (⟨S2x25x25x4, .i32⟩ : BufTy).Contents (Elt F) → (⟨S2x25x25, .f32⟩ : BufTy).Contents (Elt F)) ]

/-- The reference's operations, part 6: the spreading of each cell over its pixels. -/
def ops6 : List (HloOp τ sig (Elt F)) :=
  [ StableHlo.unary main_v38 main_v39 (broadcastInDim S2x25x8x25 ![0, 1, 3] bcast_S2x25x25_S2x25x8x25_0_1_3 : (⟨S2x25x25, .f32⟩ : BufTy).Contents (Elt F) → (⟨S2x25x8x25, .f32⟩ : BufTy).Contents (Elt F)),
    StableHlo.reshape main_v39 main_v40 (rfl : (.f32 : EltTy) = .f32) shapeCasts_S2x25x8x25_S2x200x25,
    StableHlo.unary main_v40 main_v41 (broadcastInDim S2x200x25x8 ![0, 1, 2] bcast_S2x200x25_S2x200x25x8_0_1_2 : (⟨S2x200x25, .f32⟩ : BufTy).Contents (Elt F) → (⟨S2x200x25x8, .f32⟩ : BufTy).Contents (Elt F)),
    StableHlo.reshape main_v41 main_v42 (rfl : (.f32 : EltTy) = .f32) shapeCasts_S2x200x25x8_S2x200x200,
    StableHlo.unary main_v42 main_v43 (broadcastInDim S2x1x200x200 ![0, 2, 3] bcast_S2x200x200_S2x1x200x200_0_2_3 : (⟨S2x200x200, .f32⟩ : BufTy).Contents (Elt F) → (⟨S2x1x200x200, .f32⟩ : BufTy).Contents (Elt F)) ]

/-- The reference's operations, part 7: the cross entropy. -/
def ops7 : List (HloOp τ sig (Elt F)) :=
  [ StableHlo.unary main_arg1 main_v44 ((extractStridedSlice S2x1x200x200 ![0, 0, 0, 0] · slices_S2x4x200x200_S2x1x200x200_0_0_0_0) : (⟨S2x4x200x200, .f32⟩ : BufTy).Contents (Elt F) → (⟨S2x1x200x200, .f32⟩ : BufTy).Contents (Elt F)),
    StableHlo.unary main_v43 main_v45 (Host.log : (⟨S2x1x200x200, .f32⟩ : BufTy).Contents (Elt F) → (⟨S2x1x200x200, .f32⟩ : BufTy).Contents (Elt F)),
    StableHlo.nullary main_cst_12 (constant S_ .f32 0xC2C80000#32),
    StableHlo.TRef.unary (.of main_cst_12) main_call5.v0 id,
    StableHlo.TRef.unary main_call5.v0 main_call5.v1 (broadcastInDim S2x1x200x200 ![] bcast_S_S2x1x200x200),
    StableHlo.TRef.binary main_call5.v1 (.of main_v45) main_call5.v2 maximumf,
    StableHlo.unary main_v43 main_v47 (Host.negf : (⟨S2x1x200x200, .f32⟩ : BufTy).Contents (Elt F) → (⟨S2x1x200x200, .f32⟩ : BufTy).Contents (Elt F)),
    StableHlo.unary main_v47 main_v48 (Host.log1p : (⟨S2x1x200x200, .f32⟩ : BufTy).Contents (Elt F) → (⟨S2x1x200x200, .f32⟩ : BufTy).Contents (Elt F)),
    StableHlo.nullary main_cst_13 (constant S_ .f32 0xC2C80000#32),
    StableHlo.TRef.unary (.of main_cst_13) main_call6.v0 id,
    StableHlo.TRef.unary main_call6.v0 main_call6.v1 (broadcastInDim S2x1x200x200 ![] bcast_S_S2x1x200x200),
    StableHlo.TRef.binary main_call6.v1 (.of main_v48) main_call6.v2 maximumf,
    StableHlo.binary main_v44 main_v46 main_v50 (mulf : (⟨S2x1x200x200, .f32⟩ : BufTy).Contents (Elt F) → (⟨S2x1x200x200, .f32⟩ : BufTy).Contents (Elt F) → (⟨S2x1x200x200, .f32⟩ : BufTy).Contents (Elt F)),
    StableHlo.nullary main_cst_14 (constant S_ .f32 0x3F800000#32),
    StableHlo.unary main_cst_14 main_v51 (broadcastInDim S2x1x200x200 ![] bcast_S_S2x1x200x200 : (⟨S_, .f32⟩ : BufTy).Contents (Elt F) → (⟨S2x1x200x200, .f32⟩ : BufTy).Contents (Elt F)),
    StableHlo.binary main_v51 main_v44 main_v52 (subf : (⟨S2x1x200x200, .f32⟩ : BufTy).Contents (Elt F) → (⟨S2x1x200x200, .f32⟩ : BufTy).Contents (Elt F) → (⟨S2x1x200x200, .f32⟩ : BufTy).Contents (Elt F)),
    StableHlo.binary main_v52 main_v49 main_v53 (mulf : (⟨S2x1x200x200, .f32⟩ : BufTy).Contents (Elt F) → (⟨S2x1x200x200, .f32⟩ : BufTy).Contents (Elt F) → (⟨S2x1x200x200, .f32⟩ : BufTy).Contents (Elt F)),
    StableHlo.binary main_v50 main_v53 main_v54 (addf : (⟨S2x1x200x200, .f32⟩ : BufTy).Contents (Elt F) → (⟨S2x1x200x200, .f32⟩ : BufTy).Contents (Elt F) → (⟨S2x1x200x200, .f32⟩ : BufTy).Contents (Elt F)),
    StableHlo.nullary main_cst_15 (constant S_ .f32 0x00000000#32),
    StableHlo.binary main_v54 main_cst_15 main_v55 ((fun x v => Host.reduceAdd x v reducesTo_S2x1x200x200_S_d0_1_2_3 h_S_) : (⟨S2x1x200x200, .f32⟩ : BufTy).Contents (Elt F) → (⟨S_, .f32⟩ : BufTy).Contents (Elt F) → (⟨S_, .f32⟩ : BufTy).Contents (Elt F)),
    StableHlo.nullary main_cst_16 (constant S_ .f32 0x479C4000#32),
    StableHlo.binary main_v55 main_cst_16 main_v56 (Host.divf : (⟨S_, .f32⟩ : BufTy).Contents (Elt F) → (⟨S_, .f32⟩ : BufTy).Contents (Elt F) → (⟨S_, .f32⟩ : BufTy).Contents (Elt F)),
    StableHlo.unary main_v56 main_v57 (Host.negf : (⟨S_, .f32⟩ : BufTy).Contents (Elt F) → (⟨S_, .f32⟩ : BufTy).Contents (Elt F)) ]

set_option maxHeartbeats 4000000 in
/-- The reference is these parts, one after another. -/
theorem main_seq (d : Dev nD) : StableHlo.IsSeq (main (F := F) d) (ops0 ++ (ops1 ++ (ops2 ++ (ops3 ++ (ops4 ++ (ops5 ++ (ops6 ++ ops7))))))) := by
  unfold ops0 ops1 ops2 ops3 ops4 ops5 ops6 ops7
  simp only [List.cons_append, List.nil_append]
  unfold StableHlo.IsSeq
  chain_rfl

end Cert.ROps

end
-- ==== Proof.RInt.lean ====
module

public import proofs.«01_k».proof.Proof.ROps
public import Idealize.ShloMosaic.Lib.Affine

@[expose] public section

set_option maxRecDepth 16384

noncomputable section

namespace Cert.RInt

open Idealize.ShloMosaic Idealize.ShloMosaic.TcCoe
open Cert.ReferenceIdeal Cert.ReferenceIdeal.Gen Cert.ROps

/-- The sign of a word, as the word −1, 0 or 1. -/
def sgn (x : BitVec 32) : BitVec 32 := if x = 0 then 0 else if x.msb then -1 else 1

/-- The quotient of `x` by `n`, rounded down: rounded toward zero, and one less where the signs differ and something is left. -/
def fdiv (x n : BitVec 32) : BitVec 32 :=
  Scalar.select (IntOp.andi (IntOp.cmpi .ne (sgn x) (sgn n)) (IntOp.cmpi .ne (IntOp.remsi .host x n) 0#32))
    (IntOp.subi (IntOp.divsi .host x n) 1#32) (IntOp.divsi .host x n)

/-- The divisor the reference takes a remainder by: 1 in place of 0. -/
def nz (n : BitVec 32) : BitVec 32 := Scalar.select (IntOp.cmpi .eq n 0#32) 1#32 n

/-- The remainder of `x` by `n` with the sign of `n`. -/
def fmod (x n : BitVec 32) : BitVec 32 :=
  Scalar.select
    (IntOp.andi (IntOp.cmpi .ne (IntOp.cmpi .slt (IntOp.remsi .host x (nz n)) 0#32) (IntOp.cmpi .slt (nz n) 0#32))
      (IntOp.cmpi .ne (IntOp.remsi .host x (nz n)) 0#32))
    (IntOp.addi (IntOp.remsi .host x (nz n)) (nz n)) (IntOp.remsi .host x (nz n))

/-- The camera's number at each cell, as the reference reckons it from the position there. -/
theorem camera (V : Valuation τ sig (Elt Ideal)) (j : S2x25x25.Idx) :
    (StableHlo.after ops1 V (Proc.devRef .tc main_v6) : IVec S2x25x25 32) j
      = fdiv ((V (Proc.devRef .tc main_v5) : IVec S2x25x25 32) j) 6720#32 := by
  unfold ops1
  after_results
  simp only [StableHlo.TRef.ofBuf_toBuf]
  rfl

/-- The position within the camera. -/
theorem within (V : Valuation τ sig (Elt Ideal)) (j : S2x25x25.Idx) :
    (StableHlo.after ops2 V (Proc.devRef .tc main_v7) : IVec S2x25x25 32) j
      = fmod ((V (Proc.devRef .tc main_v5) : IVec S2x25x25 32) j) 6720#32 := by
  unfold ops2
  after_results
  simp only [StableHlo.TRef.ofBuf_toBuf]
  rfl

/-- The row. -/
theorem row (V : Valuation τ sig (Elt Ideal)) (j : S2x25x25.Idx) :
    (StableHlo.after ops3 V (Proc.devRef .tc main_v8) : IVec S2x25x25 32) j
      = fdiv ((V (Proc.devRef .tc main_v7) : IVec S2x25x25 32) j) 120#32 := by
  unfold ops3
  after_results
  simp only [StableHlo.TRef.ofBuf_toBuf]
  rfl

/-- The column. -/
theorem column (V : Valuation τ sig (Elt Ideal)) (j : S2x25x25.Idx) :
    (StableHlo.after ops4 V (Proc.devRef .tc main_v9) : IVec S2x25x25 32) j
      = fmod ((V (Proc.devRef .tc main_v7) : IVec S2x25x25 32) j) 120#32 := by
  unfold ops4
  after_results
  simp only [StableHlo.TRef.ofBuf_toBuf]
  rfl

/-- A small natural's word is not negative. -/
theorem msb_nat {a : Nat} (ha : a < 2147483648) : (BitVec.ofNat 32 a).msb = false := by
  rw [BitVec.msb_eq_false_iff_two_mul_lt, BitVec.toNat_ofNat]
  omega

/-- A small positive natural's word, read signed, is positive. -/
theorem pos_nat {k : Nat} (hk : 0 < k) (hk' : k < 2147483648) : 0 < (BitVec.ofNat 32 k).toInt := by
  rw [BitVec.toInt_eq_toNat_of_msb (msb_nat hk'), BitVec.toNat_ofNat]
  omega

/-- The quotient of small naturals' words. -/
theorem div_nat {a k : Nat} (ha : a < 2147483648) (hk : 0 < k) (hk' : k < 2147483648) :
    IntOp.divsi .host (BitVec.ofNat 32 a) (BitVec.ofNat 32 k) = BitVec.ofNat 32 (a / k) := by
  unfold IntOp.divsi
  rw [if_neg (IntOp.not_corner_of_pos (pos_nat hk hk')), BitVec.sdiv_eq, msb_nat ha, msb_nat hk']
  have := Nat.div_le_self a k
  apply BitVec.eq_of_toNat_eq
  show (BitVec.udiv _ _).toNat = _
  rw [BitVec.udiv_eq, BitVec.toNat_udiv, BitVec.toNat_ofNat, BitVec.toNat_ofNat, BitVec.toNat_ofNat,
    Nat.mod_eq_of_lt (a := a) (by omega), Nat.mod_eq_of_lt (a := k) (by omega), Nat.mod_eq_of_lt (a := a / k) (by omega)]

/-- The remainder of small naturals' words. -/
theorem rem_nat {a k : Nat} (ha : a < 2147483648) (hk : 0 < k) (hk' : k < 2147483648) :
    IntOp.remsi .host (BitVec.ofNat 32 a) (BitVec.ofNat 32 k) = BitVec.ofNat 32 (a % k) := by
  have hN : (BitVec.ofNat 32 a).toNat = a := by rw [BitVec.toNat_ofNat]; omega
  have := Nat.mod_le a k
  apply BitVec.eq_of_toNat_eq
  rw [IntOp.toNat_remsi .host (by omega) k hk (by omega), hN, BitVec.toNat_ofNat]
  omega

/-- Words of different small naturals differ. -/
theorem word_ne {a b : Nat} (ha : a < 2147483648) (hb : b < 2147483648) (h : a ≠ b) : BitVec.ofNat 32 a ≠ BitVec.ofNat 32 b := by
  intro e
  have := congrArg BitVec.toNat e
  rw [BitVec.toNat_ofNat, BitVec.toNat_ofNat] at this
  omega

/-- The sign of a small positive natural's word. -/
theorem sgn_nat {a : Nat} (ha : 0 < a) (ha' : a < 2147483648) : sgn (BitVec.ofNat 32 a) = 1 := by
  unfold sgn
  rw [if_neg (show ¬BitVec.ofNat 32 a = 0 from word_ne (b := 0) ha' (by omega) ha.ne'), msb_nat ha']
  rfl

/-- Rounding down changes nothing on small naturals. -/
theorem fdiv_nat {a k : Nat} (ha : a < 2147483648) (hk : 0 < k) (hk' : k < 2147483648) :
    fdiv (BitVec.ofNat 32 a) (BitVec.ofNat 32 k) = BitVec.ofNat 32 (a / k) := by
  unfold fdiv
  rw [div_nat ha hk hk', rem_nat ha hk hk']
  have hc : IntOp.andi (IntOp.cmpi .ne (sgn (BitVec.ofNat 32 a)) (sgn (BitVec.ofNat 32 k)))
      (IntOp.cmpi .ne (BitVec.ofNat 32 (a % k)) 0#32) = 0#1 := by
    rcases Nat.eq_zero_or_pos a with h | h
    · rw [h, Nat.zero_mod]
      have : IntOp.cmpi .ne (BitVec.ofNat 32 0) 0#32 = 0#1 := by decide
      rw [this]
      exact BitVec.and_zero
    · rw [sgn_nat h ha, sgn_nat hk hk']
      have : IntOp.cmpi .ne (1 : BitVec 32) 1 = 0#1 := by decide
      rw [this]
      exact BitVec.zero_and
  rw [hc]
  rfl

/-- A small natural's word is not below zero. -/
theorem slt_nat {a : Nat} (ha : a < 2147483648) : IntOp.cmpi .slt (BitVec.ofNat 32 a) 0#32 = 0#1 := by
  have h : (BitVec.ofNat 32 a).slt 0#32 = false := by
    rw [Bool.eq_false_iff]
    intro h
    rw [BitVec.slt_iff_toInt_lt, BitVec.toInt_eq_toNat_of_msb (msb_nat ha)] at h
    have : (0#32).toInt = 0 := by decide
    omega
  show BitVec.ofBool ((BitVec.ofNat 32 a).slt 0#32) = 0#1
  rw [h]
  rfl

/-- Nor the sign rule of the remainder. -/
theorem fmod_nat {a k : Nat} (ha : a < 2147483648) (hk : 0 < k) (hk' : k < 2147483648) :
    fmod (BitVec.ofNat 32 a) (BitVec.ofNat 32 k) = BitVec.ofNat 32 (a % k) := by
  have hz : nz (BitVec.ofNat 32 k) = BitVec.ofNat 32 k := by
    unfold nz
    have h : (BitVec.ofNat 32 k == 0#32) = false := beq_eq_false_iff_ne.2 (word_ne hk' (by omega) hk.ne')
    have : IntOp.cmpi .eq (BitVec.ofNat 32 k) 0#32 = 0#1 := by
      show BitVec.ofBool (BitVec.ofNat 32 k == 0#32) = 0#1
      rw [h]
      rfl
    rw [this]
    rfl
  unfold fmod
  have := Nat.mod_le a k
  rw [hz, rem_nat ha hk hk', slt_nat (by omega), slt_nat hk']
  have : IntOp.cmpi .ne (0#1) 0#1 = 0#1 := by decide
  rw [this, show ∀ x : BitVec 1, IntOp.andi 0#1 x = 0#1 from fun _ => BitVec.zero_and]
  rfl

/-- Of a position below 40320 the words are what the naturals give. -/
theorem words (p : Fin 40320) :
    fdiv (BitVec.ofNat 32 p.val) 6720#32 = BitVec.ofNat 32 (p.val / 6720)
      ∧ fmod (BitVec.ofNat 32 p.val) 6720#32 = BitVec.ofNat 32 (p.val % 6720)
      ∧ fdiv (fmod (BitVec.ofNat 32 p.val) 6720#32) 120#32 = BitVec.ofNat 32 (p.val / 120 % 56)
      ∧ fmod (fmod (BitVec.ofNat 32 p.val) 6720#32) 120#32 = BitVec.ofNat 32 (p.val % 120) := by
  have hp := p.isLt
  have h1 : fmod (BitVec.ofNat 32 p.val) 6720#32 = BitVec.ofNat 32 (p.val % 6720) := fmod_nat (by omega) (by omega) (by omega)
  refine ⟨fdiv_nat (by omega) (by omega) (by omega), h1, ?_, ?_⟩
  · rw [h1]
    exact (fdiv_nat (by omega) (by omega) (by omega)).trans (congrArg _ (by omega))
  · rw [h1]
    exact (fmod_nat (by omega) (by omega) (by omega)).trans (congrArg _ (by omega))

end Cert.RInt

end
-- ==== Proof.RArg.lean ====
module

public import proofs.«01_k».proof.Proof.RInt
public import proofs.«01_k».proof.Proof.FirstMax
public import Idealize.ShloMosaic.PureOps.Reduce

@[expose] public section

set_option maxRecDepth 16384

noncomputable section

namespace Cert.RArg

open Idealize.ShloMosaic Idealize.ShloMosaic.TcCoe
open Cert.ReferenceIdeal Cert.ReferenceIdeal.Gen Cert.FirstMax

/-- Of two values with their positions, the larger value; of equal values, the smaller position. -/
def pick (a b : EReal × BitVec 32) : EReal × BitVec 32 :=
  if b.1 < a.1 ∨ (a.1 = b.1 ∧ a.2.slt b.2) then a else b

/-- The reference's reducer is that choice. -/
theorem reducer_eq (a b : EReal × BitVec 32) : (reducer_argmax_f32_i32 (F := Ideal) a b : EReal × BitVec 32) = pick a b := by
  obtain ⟨x, u⟩ := a
  obtain ⟨y, v⟩ := b
  unfold pick
  show (Scalar.select (IntOp.ori (Ideal.cmp .ogt x y) (Ideal.cmp .une x x)) x y,
    Scalar.select (IntOp.ori (IntOp.ori (Ideal.cmp .ogt x y) (Ideal.cmp .une x x)) (IntOp.andi (Ideal.cmp .oeq x y) (IntOp.cmpi .slt u v))) u v) = _
  have h0 : Ideal.cmp .une x x = 0#1 := by simp [Ideal.cmp]
  rw [h0]
  by_cases h1 : y < x
  · have e1 : Ideal.cmp .ogt x y = 1#1 := by simp [Ideal.cmp, h1]
    rw [e1, if_pos (.inl h1)]
    have e2 : ∀ w : BitVec 1, IntOp.ori (IntOp.ori (1#1) 0#1) w = 1#1 := by decide
    rw [e2]
    rfl
  · have e1 : Ideal.cmp .ogt x y = 0#1 := by simp [Ideal.cmp, h1]
    rw [e1]
    by_cases h2 : x = y
    · subst h2
      have e2 : Ideal.cmp .oeq x x = 1#1 := by simp [Ideal.cmp]
      rw [e2]
      cases h3 : u.slt v
      · rw [if_neg (by simp [h3])]
        have e3 : IntOp.cmpi .slt u v = 0#1 := by show BitVec.ofBool (u.slt v) = _; rw [h3]; rfl
        rw [e3]
        rfl
      · rw [if_pos (.inr ⟨rfl, rfl⟩)]
        have e3 : IntOp.cmpi .slt u v = 1#1 := by show BitVec.ofBool (u.slt v) = _; rw [h3]; rfl
        rw [e3]
        rfl
    · have e2 : Ideal.cmp .oeq x y = 0#1 := by simp [Ideal.cmp, h2]
      rw [e2, if_neg (by simp [h1, h2])]
      have e3 : ∀ w : BitVec 1, IntOp.ori (IntOp.ori (0#1) 0#1) (IntOp.andi 0#1 w) = 0#1 := by decide
      rw [e3]
      rfl

variable {n : Nat} {f : Fin n → EReal} {k : Fin n}

/-- A value of the row with its position. -/
def pr (f : Fin n → EReal) (p : Fin n) : EReal × BitVec 32 := (f p, BitVec.ofNat 32 p.val)

/-- Small words compare as signed numbers as the numbers do. -/
theorem slt_words {a b : Nat} (ha : a < 2147483648) (hb : b < 2147483648) :
    (BitVec.ofNat 32 a).slt (BitVec.ofNat 32 b) = true ↔ a < b := by
  rw [BitVec.slt_iff_toInt_lt, BitVec.toInt_eq_toNat_of_msb (RInt.msb_nat ha), BitVec.toInt_eq_toNat_of_msb (RInt.msb_nat hb),
    BitVec.toNat_ofNat, BitVec.toNat_ofNat]
  omega

/-- The first largest beats whatever comes after it. -/
theorem pick_left (hn : n ≤ 2147483648) (hk : IsFirst f k) (p : Fin n) : pick (pr f k) (pr f p) = pr f k := by
  unfold pick
  have hp := p.isLt
  have hk' := k.isLt
  rcases lt_or_eq_of_le (hk.1 p) with h | h
  · exact if_pos (.inl h)
  · rcases lt_trichotomy p k with h2 | h2 | h2
    · exact absurd (hk.2 p h2) (by rw [h]; exact lt_irrefl _)
    · subst h2
      split <;> rfl
    · exact if_pos (.inr ⟨h.symm, (slt_words (by omega) (by omega)).2 h2⟩)

/-- And whatever came before it. -/
theorem pick_right (hn : n ≤ 2147483648) (hk : IsFirst f k) (p : Fin n) : pick (pr f p) (pr f k) = pr f k := by
  unfold pick
  have hp := p.isLt
  have hk' := k.isLt
  by_cases h2 : p = k
  · subst h2
    split <;> rfl
  refine if_neg ?_
  rintro (h | ⟨h, h3⟩)
  · exact absurd (hk.1 p) (not_le.2 h)
  · have h4 : p.val < k.val := (slt_words (by omega) (by omega)).1 h3
    exact absurd (hk.2 p h4) (by rw [show f p = f k from h]; exact lt_irrefl _)

/-- Once the first largest is held it stays. -/
theorem fold_stay (hn : n ≤ 2147483648) (hk : IsFirst f k) (L : List (EReal × BitVec 32)) (hL : ∀ q ∈ L, ∃ p, q = pr f p) :
    L.foldl pick (pr f k) = pr f k := by
  induction L with
  | nil => rfl
  | cons q L ih =>
    obtain ⟨p, hp⟩ := hL q List.mem_cons_self
    rw [List.foldl_cons, hp, pick_left hn hk]
    exact ih fun q hq => hL q (List.mem_cons_of_mem _ hq)

/-- A run over a list of the row's values that holds the first largest ends at it. -/
theorem fold_pick (hn : n ≤ 2147483648) (hk : IsFirst f k) (hb : ⊥ < f k) (L : List (EReal × BitVec 32)) (hL : ∀ q ∈ L, ∃ p, q = pr f p)
    (hm : pr f k ∈ L) (acc : EReal × BitVec 32) (hacc : acc = (⊥, 0#32) ∨ ∃ p, acc = pr f p) : L.foldl pick acc = pr f k := by
  induction L generalizing acc with
  | nil => exact absurd hm List.not_mem_nil
  | cons q L ih =>
    have hL' : ∀ q ∈ L, ∃ p, q = pr f p := fun q hq => hL q (List.mem_cons_of_mem _ hq)
    rw [List.foldl_cons]
    rcases List.mem_cons.1 hm with h | h
    · have e : pick acc q = pr f k := by
        rw [← h]
        rcases hacc with rfl | ⟨p, rfl⟩
        · refine if_neg ?_
          rintro (h | ⟨h, -⟩)
          · exact absurd h not_lt_bot
          · exact absurd h hb.ne
        · exact pick_right hn hk p
      rw [e]
      exact fold_stay hn hk L hL'
    · refine ih hL' h _ ?_
      obtain ⟨p, hp⟩ := hL q List.mem_cons_self
      unfold pick
      split
      · exact hacc
      · exact .inr ⟨p, hp⟩

/-- So the word it ends with is the first largest position's. -/
theorem fold_word {f : Fin 40320 → EReal} {k : Fin 40320} (hk : IsFirst f k) (hb : ⊥ < f k) (L : List (EReal × BitVec 32))
    (red : EReal × BitVec 32 → EReal × BitVec 32 → EReal × BitVec 32) (acc : EReal × BitVec 32) (hr : red = pick) (ha : acc = (⊥, 0#32))
    (hL : ∀ q ∈ L, ∃ p, q = pr f p) (hm : pr f k ∈ L) : (L.foldl red acc).2 = BitVec.ofNat 32 k.val := by
  rw [hr, ha, fold_pick (by omega) hk hb L hL hm _ (.inl rfl)]
  rfl

/-- The reference's reduction over the image positions: at each cell, the word of the first largest position. -/
theorem arg_at (x : FVec Ideal S2x25x25x40320 .f32) (b : Fin 2) (i j : Fin 25) (k : Fin 40320)
    (hk : IsFirst (fun p => (x (ix4 b i j p) : EReal)) k) (hb : (⊥ : EReal) < x (ix4 b i j k)) :
    (Host.argReduce (reducer_argmax_f32_i32 (F := Ideal)) x (iotaInDim S2x25x25x40320 32 3)
      (constant (F := Ideal) S_ .f32 0xFF800000#32) (constantI S_ 32 0#32) reducesTo_S2x25x25x40320_S2x25x25_d3 h_S_ (ix3 b i j)).2
      = BitVec.ofNat 32 k.val := by
  rw [Ideal.argReduce_eq_reduce2, Host.reduce2_eq_foldl_fiber]
  have hr : (reducer_argmax_f32_i32 (F := Ideal) : EReal × BitVec 32 → EReal × BitVec 32 → EReal × BitVec 32) = pick :=
    funext fun a => funext fun b => reducer_eq a b
  have h0 : (constant (F := Ideal) S_ .f32 0xFF800000#32 (Shape.Idx.first h_S_) : EReal) = ⊥ := by
    show Ideal.ofBits .f32 0xFF800000#32 = ⊥
    simp [Ideal.ofBits, Ideal.ieee]
  have e : (constant (F := Ideal) S_ .f32 0xFF800000#32 (Shape.Idx.first h_S_), constantI S_ 32 0#32 (Shape.Idx.first h_S_))
      = ((⊥, 0#32) : EReal × BitVec 32) := Prod.ext h0 rfl
  refine fold_word hk hb _ _ _ hr e ?_ ?_
  · intro q hq
    obtain ⟨m, hm, rfl⟩ := List.mem_map.1 hq
    have hd := of_decide_eq_true (List.mem_filter.1 hm).2
    generalize S2x25x25x40320.rowMajor.symm m = I at hd
    have h1 := Shape.ReducesTo.drop_apply_val_of_eq reducesTo_S2x25x25x40320_S2x25x25_d3 I 0 0
    have h2 := Shape.ReducesTo.drop_apply_val_of_eq reducesTo_S2x25x25x40320_S2x25x25_d3 I 1 1
    have h3 := Shape.ReducesTo.drop_apply_val_of_eq reducesTo_S2x25x25x40320_S2x25x25_d3 I 2 2
    rw [hd] at h1 h2 h3
    refine ⟨I 3, ?_⟩
    have eI : I = ix4 b i j (I 3) := by
      funext a
      fin_cases a
      · exact Fin.ext h1.symm
      · exact Fin.ext h2.symm
      · exact Fin.ext h3.symm
      · rfl
    exact Prod.ext (congrArg x eI) rfl
  · refine List.mem_map.2 ⟨S2x25x25x40320.rowMajor (ix4 b i j k), List.mem_filter.2 ⟨?_, decide_eq_true ?_⟩, ?_⟩
    · generalize S2x25x25x40320.rowMajor (ix4 b i j k) = z
      exact List.mem_finRange z
    · rw [Equiv.symm_apply_apply]
      funext a
      fin_cases a <;> rfl
    · rw [Equiv.symm_apply_apply]
      rfl

end Cert.RArg

end
-- ==== Proof.RHeads.lean ====
module

public import proofs.«01_k».proof.Proof.ROps
public import proofs.«01_k».proof.Proof.Spec
public import proofs.«01_k».proof.Proof.RArg
public import proofs.«01_k».proof.Proof.Bce
public import Idealize.ShloMosaic.Lib.Pointwise

@[expose] public section

set_option maxRecDepth 16384

noncomputable section

namespace Cert.RHeads

open Idealize.ShloMosaic Idealize.ShloMosaic.TcCoe
open Cert.ReferenceIdeal Cert.ReferenceIdeal.Gen Cert.ROps Cert.FirstMax Cert.Spec Cert.Bce

/-- The heads' sums divided by four, one row of image positions per cell. -/
def heads (x : FVec Ideal S8x625x40320 .f32) : FVec Ideal S2x25x25x40320 .f32 :=
  shapeCast S2x25x25x40320
    (Host.divf
      (Host.reduceAdd (shapeCast S2x4x25x25x6x56x120 x shapeCasts_S8x625x40320_S2x4x25x25x6x56x120) (constant S_ .f32 0x00000000#32)
        reducesTo_S2x4x25x25x6x56x120_S2x25x25x6x56x120_d1 h_S_)
      (broadcastInDim S2x25x25x6x56x120 ![] bcast_S_S2x25x25x6x56x120 (constant S_ .f32 0x40800000#32)))
    shapeCasts_S2x25x25x6x56x120_S2x25x25x40320

/-- The mean over heads at an entry: the four heads' sum divided by four. -/
theorem heads_at (x : FVec Ideal S8x625x40320 .f32) (b : Fin 2) (i j : Fin 25) (p : Fin 40320) :
    (heads x (ix4 b i j p) : EReal) = Ideal.div (∑ h : Fin 4, x (ix3 (⟨4 * b.val + h.val, by omega⟩ : Fin 8) (⟨25 * i.val + j.val, by omega⟩ : Fin 625) p)) (Ideal.ofBits .f32 0x40800000#32) := by
  pointwise [heads]
  rw [Ideal.hostReduceAdd_single _ (by decide : S2x4x25x25x6x56x120.Reduces [1] S2x25x25x6x56x120), zero_add]
  congr 1
  refine Finset.sum_congr rfl fun h _ => ?_
  have e : (by decide : S2x4x25x25x6x56x120.Reduces [1] S2x25x25x6x56x120).lift
      (ix6 b i j (⟨p.val / 6720, by omega⟩ : Fin 6) (⟨p.val / 120 % 56, by omega⟩ : Fin 56) (⟨p.val % 120, by omega⟩ : Fin 120)) h
      = ix7 b h i j (⟨p.val / 6720, by omega⟩ : Fin 6) (⟨p.val / 120 % 56, by omega⟩ : Fin 56) (⟨p.val % 120, by omega⟩ : Fin 120) := by
    funext a
    fin_cases a <;> rfl
  rw [e]
  pointwise []
  congr 2 <;> exact Fin.ext (by simp only []; omega)

/-- The index buffer holds the reduction's index over the means of the heads. -/
theorem v5_eq (V : Valuation τ sig (Elt Ideal)) :
    (StableHlo.after ops0 V (Proc.devRef .tc main_v5) : IVec S2x25x25 32)
      = fun j => (Host.argReduce (reducer_argmax_f32_i32 (F := Ideal)) (heads (V (Proc.devRef .tc main_arg4))) (iotaInDim S2x25x25x40320 32 3)
          (constant (F := Ideal) S_ .f32 0xFF800000#32) (constantI S_ 32 0#32) reducesTo_S2x25x25x40320_S2x25x25_d3 h_S_ j).2 := by
  unfold ops0
  after_results
  simp only [StableHlo.TRef.ofBuf_toBuf]
  rfl

/-- Dividing by four keeps the order. -/
theorem quarter_mono : StrictMono fun x : EReal => Ideal.div x (Ideal.ofBits .f32 0x40800000#32) := by
  intro x y h
  show Ideal.div x (Ideal.ofBits .f32 1082130432#32) < Ideal.div y (Ideal.ofBits .f32 1082130432#32)
  rw [four_bits, Ideal.div_coe (by norm_num), Ideal.div_coe (by norm_num), one_div, EReal.coe_inv, ← div_eq_mul_inv, ← div_eq_mul_inv]
  exact EReal.div_lt_div_right_of_pos (by exact_mod_cast (by norm_num : (0 : ℝ) < 4)) (EReal.coe_ne_top _) h

/-- The attention rows of a contents of the argument. -/
def attV (x : FVec Ideal S8x625x40320 .f32) : Fin 8 → Fin 625 → Fin 40320 → EReal := fun a q p => x (ix3 a q p)

/-- The position the reference finds at each cell. -/
theorem position (V : Valuation τ sig (Elt Ideal))
    (h : ∀ a q p, attV (V (Proc.devRef .tc main_arg4)) a q p ≠ ⊤ ∧ attV (V (Proc.devRef .tc main_arg4)) a q p ≠ ⊥) (b : Fin 2) (i j : Fin 25) :
    (StableHlo.after ops0 V (Proc.devRef .tc main_v5) : IVec S2x25x25 32) (ix3 b i j)
      = BitVec.ofNat 32 (best (attV (V (Proc.devRef .tc main_arg4))) b ⟨25 * i.val + j.val, by omega⟩).val := by
  rw [v5_eq]
  generalize (V (Proc.devRef .tc main_arg4) : FVec Ideal S8x625x40320 .f32) = x at h
  have hh : (fun p => (heads x (ix4 b i j p) : EReal))
      = fun p => Ideal.div (score (attV x) b ⟨25 * i.val + j.val, by omega⟩ p) (Ideal.ofBits .f32 0x40800000#32) :=
    funext fun p => heads_at x b i j p
  refine RArg.arg_at (heads x) b i j _ ?_ ?_
  · rw [hh]
    exact (best_isFirst (attV x) b ⟨25 * i.val + j.val, by omega⟩).comp quarter_mono
  · rw [congrFun hh _]
    have hr : ∀ z : EReal, z ≠ ⊤ ∧ z ≠ ⊥ → ∃ r : ℝ, z = (r : EReal) := fun z hz => ⟨z.toReal, (EReal.coe_toReal hz.1 hz.2).symm⟩
    choose r hr using fun a q p => hr _ (h a q p)
    unfold score
    simp only [hr]
    rw [← coe_sum]
    show ⊥ < Ideal.div _ (Ideal.ofBits .f32 1082130432#32)
    rw [four_bits, Ideal.div_coe (by norm_num), ← EReal.coe_mul]
    exact EReal.bot_lt_coe _

end Cert.RHeads

end
-- ==== Proof.RLook.lean ====
module

public import proofs.«01_k».proof.Proof.RInt
public import Idealize.ShloMosaic.Lib.Pointwise

@[expose] public section

set_option maxRecDepth 16384

noncomputable section

namespace Cert.RLook

open Idealize.ShloMosaic Idealize.ShloMosaic.TcCoe
open Cert.ReferenceIdeal Cert.ReferenceIdeal.Gen Cert.ROps

/-- The look-up's dimension numbers: one element at a position given whole. -/
abbrev gd : GatherDims S2x6x56x120 S2x25x25x4 S2x25x25 := gather_S2x6x56x120_S2x25x25x4_S2x25x25_n_0123_n_n_0123_3_1111

/-- One coordinate of the looked-up position: the start index's component, clamped into the axis. -/
theorem coord (idx : IVec S2x25x25x4 32) (b : Fin 2) (i j : Fin 25) (a : Fin 4) (v : Nat) (hv : v < S2x6x56x120.size a)
    (h : idx (ix4 b i j a) = BitVec.ofNat 32 v) : (GatherDims.operandIdx gd (ix3 b i j) idx a).val = v := by
  show GatherDims.start gd (ix3 b i j) idx a + GatherDims.batchCoord gd (ix3 b i j) a + GatherDims.offCoord gd (ix3 b i j) a = _
  have hmem : a ∈ gd.collapsedSliceDims := (by decide : ∀ a : Fin 4, a ∈ gd.collapsedSliceDims) a
  have hmem' : a ∈ gd.startIndexMap := (by decide : ∀ a : Fin 4, a ∈ gd.startIndexMap) a
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem']
  have hsi : GatherDims.siIdx gd (ix3 b i j) ⟨List.idxOf a gd.startIndexMap, List.idxOf_lt_length_iff.2 hmem'⟩ = ix4 b i j a := by
    funext c
    refine Fin.ext ?_
    fin_cases a <;> fin_cases c <;> rfl
  rw [hsi, h]
  have hs : S2x6x56x120.size a ≤ 120 := (by decide : ∀ a : Fin 4, S2x6x56x120.size a ≤ 120) a
  rw [BitVec.toInt_eq_toNat_of_msb (RInt.msb_nat (by omega)), BitVec.toNat_ofNat]
  have h1 : gd.sliceSizes a = 1 := (by decide : ∀ a : Fin 4, gd.sliceSizes a = 1) a
  rw [h1]
  omega

/-- The look-up at indices within the table. -/
theorem gather_at (x : FVec Ideal S2x6x56x120 .f32) (idx : IVec S2x25x25x4 32) (b : Fin 2) (i j : Fin 25) (c : Fin 6) (r : Fin 56) (q : Fin 120)
    (h0 : idx (ix4 b i j (0 : Fin 4)) = BitVec.ofNat 32 b.val) (h1 : idx (ix4 b i j (1 : Fin 4)) = BitVec.ofNat 32 c.val)
    (h2 : idx (ix4 b i j (2 : Fin 4)) = BitVec.ofNat 32 r.val) (h3 : idx (ix4 b i j (3 : Fin 4)) = BitVec.ofNat 32 q.val) :
    Host.gather gd x idx (ix3 b i j) = x (ix4 b c r q) := by
  show x (GatherDims.operandIdx gd (ix3 b i j) idx) = _
  congr 1
  funext a
  refine Fin.ext ?_
  fin_cases a
  · exact coord idx b i j 0 b.val b.isLt h0
  · exact coord idx b i j 1 c.val c.isLt h1
  · exact coord idx b i j 2 r.val r.isLt h2
  · exact coord idx b i j 3 q.val q.isLt h3

/-- A small natural's word is kept where negative words are moved up. -/
theorem keep {a : Nat} (ha : a < 2147483648) (w : BitVec 32) :
    Scalar.select (IntOp.cmpi .slt (BitVec.ofNat 32 a) 0#32) w (BitVec.ofNat 32 a) = BitVec.ofNat 32 a := by
  rw [RInt.slt_nat ha]
  rfl

/-- The look-up, at a cell whose camera, row and column are those of position `p`. -/
theorem look (V : Valuation τ sig (Elt Ideal)) (b : Fin 2) (i j : Fin 25) (p : Fin 40320)
    (h6 : (V (Proc.devRef .tc main_v6) : IVec S2x25x25 32) (ix3 b i j) = BitVec.ofNat 32 (p.val / 6720))
    (h8 : (V (Proc.devRef .tc main_v8) : IVec S2x25x25 32) (ix3 b i j) = BitVec.ofNat 32 (p.val / 120 % 56))
    (h9 : (V (Proc.devRef .tc main_v9) : IVec S2x25x25 32) (ix3 b i j) = BitVec.ofNat 32 (p.val % 120)) :
    ((StableHlo.after ops5 V (Proc.devRef .tc main_v38) : FVec Ideal S2x25x25 .f32) (ix3 b i j) : EReal)
      = (V (Proc.devRef .tc main_arg3) : FVec Ideal S2x6x56x120 .f32)
          (ix4 b (⟨p.val / 6720, by omega⟩ : Fin 6) (⟨p.val / 120 % 56, by omega⟩ : Fin 56) (⟨p.val % 120, by omega⟩ : Fin 120)) := by
  have hp := p.isLt
  unfold ops5
  after_reads_simp
  refine gather_at _ _ b i j _ _ _ ?_ ?_ ?_ ?_
  · pointwise []
    after_reads_simp
    pointwise []
    exact keep (by omega) _
  · pointwise []
    after_reads_simp
    pointwise []
    rw [h6]
    exact keep (by omega) _
  · pointwise []
    after_reads_simp
    pointwise []
    rw [h8]
    exact keep (by omega) _
  · pointwise []
    after_reads_simp
    pointwise []
    rw [h9]
    exact keep (by omega) _

end Cert.RLook

end
-- ==== Proof.RLoss.lean ====
module

public import proofs.«01_k».proof.Proof.ROps
public import proofs.«01_k».proof.Proof.Bce
public import Idealize.ShloMosaic.Lib.Pointwise

@[expose] public section

set_option maxRecDepth 16384

noncomputable section

namespace Cert.RLoss

open Idealize.ShloMosaic Idealize.ShloMosaic.TcCoe
open Cert.ReferenceIdeal Cert.ReferenceIdeal.Gen Cert.ROps Cert.Bce

/-- Each pixel of the spread plane is its cell's value. -/
theorem spread (V : Valuation τ sig (Elt Ideal)) (b : Fin 2) (R C : Fin 200) :
    ((StableHlo.after ops6 V (Proc.devRef .tc main_v43) : FVec Ideal S2x1x200x200 .f32) (ix4 b (0 : Fin 1) R C) : EReal)
      = (V (Proc.devRef .tc main_v38) : FVec Ideal S2x25x25 .f32) (ix3 b (cell R) (cell C)) := by
  unfold ops6
  after_reads_simp
  pointwise []
  rfl

/-- A sum over the planes' index set, coordinate by coordinate. -/
theorem sum_planes (F : S2x1x200x200.Idx → EReal) :
    ∑ x : S2x1x200x200.Idx, F x = ∑ b : Fin 2, ∑ R : Fin 200, ∑ C : Fin 200, F (ix4 b (0 : Fin 1) R C) := by
  rw [← Fintype.sum_equiv (⟨fun p : Fin 2 × Fin 200 × Fin 200 => (ix4 p.1 (0 : Fin 1) p.2.1 p.2.2 : S2x1x200x200.Idx),
      fun x => (x 0, x 2, x 3), fun _ => rfl, fun x => by
        funext a
        fin_cases a
        · rfl
        · exact (Subsingleton.elim (α := Fin 1) _ _)
        · rfl
        · rfl⟩) (fun p => F (ix4 p.1 (0 : Fin 1) p.2.1 p.2.2)) F fun _ => rfl]
  simp only [Fintype.sum_prod_type]

/-- The loss, from the spread plane and the labels. -/
theorem loss (V : Valuation τ sig (Elt Ideal)) (M : Fin 2 → Fin 25 → Fin 25 → EReal)
    (hM : ∀ b R C, ((V (Proc.devRef .tc main_v43) : FVec Ideal S2x1x200x200 .f32) (ix4 b (0 : Fin 1) R C) : EReal) = M b (cell R) (cell C)) :
    (StableHlo.after ops7 V (Proc.devRef .tc main_v57) : FVec Ideal S_ .f32)
      = fun _ => -Ideal.div (∑ b : Fin 2, pix (M b) (fun R C => (V (Proc.devRef .tc main_arg1) : FVec Ideal S2x4x200x200 .f32) (ix4 b (0 : Fin 4) R C)))
          (Ideal.ofBits .f32 1201422336#32) := by
  unfold ops7
  after_reads_simp
  simp only [StableHlo.TRef.ofBuf_toBuf]
  funext z
  pointwise []
  congr 2
  rw [Ideal.hostReduceAdd_total _ (fun b => b.elim0), zero_add, sum_planes]
  refine Finset.sum_congr rfl fun b _ => Finset.sum_congr rfl fun R _ => Finset.sum_congr rfl fun C _ => ?_
  rw [← hM]
  unfold logC log1C
  rw [max_comm (Ideal.log _), max_comm (Ideal.log1p _)]
  pointwise []
  rfl

end Cert.RLoss

end
-- ==== Proof.RValue.lean ====
module

public import proofs.«01_k».proof.Proof.RHeads
public import proofs.«01_k».proof.Proof.RLook
public import proofs.«01_k».proof.Proof.RLoss
public import proofs.«01_k».proof.Proof.KLoss

@[expose] public section

set_option maxRecDepth 16384

noncomputable section

namespace Cert.RValue

open Idealize.ShloMosaic Idealize.ShloMosaic.TcCoe
open Cert.ReferenceIdeal Cert.ReferenceIdeal.Gen Cert.ROps Cert.RHeads Cert.Spec Cert.Bce

/-- The whole line of the reference's operations. -/
abbrev line : List (HloOp τ sig (Elt Ideal)) := ops0 ++ (ops1 ++ (ops2 ++ (ops3 ++ (ops4 ++ (ops5 ++ (ops6 ++ ops7))))))

/-- The table of a contents of the argument, by image position. -/
def oodV (x : FVec Ideal S2x6x56x120 .f32) : Fin 2 → Fin 40320 → EReal :=
  fun b p => x (ix4 b (⟨p.val / 6720, by omega⟩ : Fin 6) (⟨p.val / 120 % 56, by omega⟩ : Fin 56) (⟨p.val % 120, by omega⟩ : Fin 120))

/-- The label planes of a contents of the argument. -/
def labelV (x : FVec Ideal S2x4x200x200 .f32) : Fin 2 → Fin 200 → Fin 200 → EReal := fun b R C => x (ix4 b (0 : Fin 4) R C)

variable (V : Valuation τ sig (Elt Ideal))

/-- The second part leaves the index buffer. -/
theorem k1_5 : StableHlo.after ops1 V (Proc.devRef .tc main_v5) = V (Proc.devRef .tc main_v5) := by
  unfold ops1; after_reads_simp
/-- The third part leaves the camera buffer. -/
theorem k2_6 : StableHlo.after ops2 V (Proc.devRef .tc main_v6) = V (Proc.devRef .tc main_v6) := by
  unfold ops2; after_reads_simp
/-- The fourth part leaves the camera buffer. -/
theorem k3_6 : StableHlo.after ops3 V (Proc.devRef .tc main_v6) = V (Proc.devRef .tc main_v6) := by
  unfold ops3; after_reads_simp
/-- The fifth part leaves the camera buffer. -/
theorem k4_6 : StableHlo.after ops4 V (Proc.devRef .tc main_v6) = V (Proc.devRef .tc main_v6) := by
  unfold ops4; after_reads_simp
/-- The fourth part leaves the remainder buffer. -/
theorem k3_7 : StableHlo.after ops3 V (Proc.devRef .tc main_v7) = V (Proc.devRef .tc main_v7) := by
  unfold ops3; after_reads_simp
/-- The fifth part leaves the row buffer. -/
theorem k4_8 : StableHlo.after ops4 V (Proc.devRef .tc main_v8) = V (Proc.devRef .tc main_v8) := by
  unfold ops4; after_reads_simp

/-- The first five parts leave the table. -/
theorem keep3 : StableHlo.after ops4 (StableHlo.after ops3 (StableHlo.after ops2 (StableHlo.after ops1 (StableHlo.after ops0 V))))
    (Proc.devRef .tc main_arg3) = V (Proc.devRef .tc main_arg3) := by
  after_reads_simp

/-- The first seven parts leave the labels. -/
theorem keep1 : StableHlo.after ops6 (StableHlo.after ops5 (StableHlo.after ops4 (StableHlo.after ops3 (StableHlo.after ops2 (StableHlo.after ops1 (StableHlo.after ops0 V))))))
    (Proc.devRef .tc main_arg1) = V (Proc.devRef .tc main_arg1) := by
  after_reads_simp

/-- What the reference leaves in its result, from the contents of its arguments. -/
theorem value (h : ∀ a q p, attV (V (Proc.devRef .tc main_arg4)) a q p ≠ ⊤ ∧ attV (V (Proc.devRef .tc main_arg4)) a q p ≠ ⊥) :
    (StableHlo.after line V (Proc.devRef .tc main_v57) : FVec Ideal S_ .f32)
      = fun _ => -Ideal.div (∑ b : Fin 2, pix (KLoss.cells (attV (V (Proc.devRef .tc main_arg4))) (oodV (V (Proc.devRef .tc main_arg3))) b)
          (labelV (V (Proc.devRef .tc main_arg1)) b)) (Ideal.ofBits .f32 1201422336#32) := by
  unfold line
  simp only [StableHlo.after_append]
  have hp := position V h
  generalize hV1 : StableHlo.after ops0 V = V1 at hp
  have h6 := RInt.camera V1
  have e7 := RInt.within (StableHlo.after ops1 V1)
  rw [k1_5] at e7
  have e8 := RInt.row (StableHlo.after ops2 (StableHlo.after ops1 V1))
  have e9 := RInt.column (StableHlo.after ops3 (StableHlo.after ops2 (StableHlo.after ops1 V1)))
  rw [k3_7] at e9
  have hl := fun (b : Fin 2) (i j : Fin 25) =>
    RLook.look (StableHlo.after ops4 (StableHlo.after ops3 (StableHlo.after ops2 (StableHlo.after ops1 V1)))) b i j
      (best (attV (V (Proc.devRef .tc main_arg4))) b ⟨25 * i.val + j.val, by omega⟩)
      (by rw [k4_6, k3_6, k2_6, h6, hp]; exact (RInt.words _).1)
      (by rw [k4_8, e8, e7, hp]; exact (RInt.words _).2.2.1)
      (by rw [e9, e7, hp]; exact (RInt.words _).2.2.2)
  rw [← hV1, keep3 V] at hl
  refine (RLoss.loss _ (KLoss.cells (attV (V (Proc.devRef .tc main_arg4))) (oodV (V (Proc.devRef .tc main_arg3)))) fun b R C => ?_).trans ?_
  · rw [RLoss.spread, ← hV1]
    exact hl b (cell R) (cell C)
  · rw [← hV1, keep1 V]
    rfl

end Cert.RValue

end
-- ==== Proof.RRun.lean ====
module

public import proofs.«01_k».proof.Proof.RValue

@[expose] public section

set_option maxRecDepth 16384

noncomputable section

namespace Cert.RRun

open Idealize.ShloMosaic Idealize.ShloMosaic.TcCoe
open Cert.ReferenceIdeal Cert.ReferenceIdeal.Gen Cert.ROps Cert.RValue

variable (V : Valuation τ sig (Elt Ideal))

/-- No operation of the reference writes an argument. -/
theorem args : StableHlo.after line V (Proc.devRef .tc main_arg0) = V (Proc.devRef .tc main_arg0)
    ∧ StableHlo.after line V (Proc.devRef .tc main_arg1) = V (Proc.devRef .tc main_arg1)
    ∧ StableHlo.after line V (Proc.devRef .tc main_arg2) = V (Proc.devRef .tc main_arg2)
    ∧ StableHlo.after line V (Proc.devRef .tc main_arg3) = V (Proc.devRef .tc main_arg3)
    ∧ StableHlo.after line V (Proc.devRef .tc main_arg4) = V (Proc.devRef .tc main_arg4)
    ∧ StableHlo.after line V (Proc.devRef .tc main_arg5) = V (Proc.devRef .tc main_arg5) := by
  unfold line
  refine ⟨?_, ?_, ?_, ?_, ?_, ?_⟩ <;> after_reads_simp

/-- Every run of the reference ends with the line's contents in every buffer. -/
theorem run (m : (ℓ : Loc nD τ sig) → Buf (Elt Ideal) ℓ) (ρ : Dev nD → PrngReg) :
    θ_run (defs (F := Ideal)) (onTc (main (F := Ideal))) ⟨m, fun _ => 0, ρ⟩
      (fun r => ∀ (d : Dev nD) (b : Ref sig .tc), r.2.mem (d.tc.loc b) = StableHlo.after line (StableHlo.launchContents m d) (Proc.devRef .tc b)) :=
  StableHlo.run_hlo _ _ main_seq (by decide) (by decide)
    (by unfold ops0 ops1 ops2 ops3 ops4 ops5 ops6 ops7; simp)
    (by
      unfold ops0 ops1 ops2 ops3 ops4 ops5 ops6 ops7
      intro _ h
      simp only [List.cons_append, List.nil_append] at h
      (repeat (cases h with | head => rfl | tail _ h => ?_))
      exact nomatch h) _ _

end Cert.RRun

end
-- ==== Proof.Finite.lean ====
module

public import proofs.«01_k».proof.Defs
public import proofs.«01_k».proof.Proof.KLoss
public import Idealize.ShloMosaic.PureOps.Reduce
public import Idealize.ShloMosaic.Lib.Affine

@[expose] public section

set_option maxRecDepth 16384

noncomputable section

namespace Cert.Finite

open Idealize.ShloMosaic Idealize.ShloMosaic.TcCoe
open Cert.KMask Cert.KLoss

/-- A fold of bits by "and" that ends at one started at one and met only ones. -/
theorem fold_one {α : Type} (f : α → BitVec 1) (l : List α) (a : BitVec 1)
    (h : l.foldl (fun r i => IntOp.andi r (f i)) a = 1#1) : a = 1#1 ∧ ∀ i ∈ l, f i = 1#1 := by
  have two : ∀ u v : BitVec 1, IntOp.andi u v = 1#1 → u = 1#1 ∧ v = 1#1 := by decide
  induction l generalizing a with
  | nil => exact ⟨h, fun i hi => nomatch hi⟩
  | cons x l ih =>
    obtain ⟨h1, h2⟩ := ih _ h
    obtain ⟨ha, hx⟩ := two _ _ h1
    exact ⟨ha, fun i hi => by
      rcases List.mem_cons.1 hi with e | e
      · exact e ▸ hx
      · exact h2 i e⟩

/-- A reduction of bits by "and" to one number that is one met only ones. -/
theorem reduce_one {s u t : Shape} {axes : List (Fin s.rank)} (x : s.Idx → BitVec 1) (v : u.Idx → BitVec 1) (h : s.ReducesTo axes t)
    (hu : 0 < u.numel) (j : t.Idx) (ht : ∀ k : t.Idx, k = j) (e : Host.reduce IntOp.andi x v h hu j = 1#1) (i : s.Idx) : x i = 1#1 := by
  rw [Host.reduce_eq_foldl] at e
  exact (fold_one x _ _ e).2 i (List.mem_filter.2 ⟨List.mem_map.2 ⟨s.rowMajor i, List.mem_finRange _, by simp⟩, by simp [ht (h.drop i)]⟩)

/-- A value whose size is below infinity is a real number. -/
theorem below (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor <;> rintro rfl <;> simp [Ideal.cmp] at h

/-- What the precondition says of the arrays it reads. -/
theorem parts [Cert.Pre_finite.Facts] (x0 x1 : FVec Ideal Cert.Pre_finite.S2x4x200x200 .f32) (x2 : FVec Ideal Cert.Pre_finite.S2x200x200 .f32)
    (x3 : FVec Ideal Cert.Pre_finite.S2x6x56x120 .f32) (x4 : FVec Ideal Cert.Pre_finite.S8x625x40320 .f32)
    (x5 : FVec Ideal Cert.Pre_finite.S8x625x2520 .f32) (h : Cert.Pre_finite.fn (F := Ideal) x0 x1 x2 x3 x4 x5 = fun _ => 1#1) :
    (∀ (b : Fin 2) (R C : Fin 200), (x1 (ix4 b (0 : Fin 4) R C) : EReal) ≠ ⊤ ∧ (x1 (ix4 b (0 : Fin 4) R C) : EReal) ≠ ⊥)
      ∧ (∀ i, (x3 i : EReal) ≠ ⊤ ∧ (x3 i : EReal) ≠ ⊥) ∧ (∀ i, (x4 i : EReal) ≠ ⊤ ∧ (x4 i : EReal) ≠ ⊥) := by
  have two : ∀ u v : BitVec 1, IntOp.andi u v = 1#1 → u = 1#1 ∧ v = 1#1 := by decide
  have one : ∀ k : Cert.Pre_finite.S_.Idx, k = ix0 := fun k => funext fun a => a.elim0
  obtain ⟨h12, h3⟩ := two _ _ (congrFun h ix0)
  obtain ⟨h1, h2⟩ := two _ _ h12
  refine ⟨fun b R C => ?_, fun i => below _ (reduce_one _ _ _ _ _ one h2 i), fun i => below _ (reduce_one _ _ _ _ _ one h3 i)⟩
  have e := below _ (reduce_one _ _ _ _ _ one h1 (ix3 b R C))
  have q : (shapeCast Cert.Pre_finite.S2x200x200 (extractStridedSlice Cert.Pre_finite.S2x1x200x200 ![0, 0, 0, 0] x1
      Cert.Pre_finite.Facts.slices_S2x4x200x200_S2x1x200x200_0_0_0_0) Cert.Pre_finite.Facts.shapeCasts_S2x1x200x200_S2x200x200) (ix3 b R C)
      = x1 (ix4 b (0 : Fin 4) R C) := by
    pointwise []
  rw [← q]
  exact e

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KRun
public import proofs.«01_k».proof.Proof.RRun
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's two frame claims: it runs, its arguments stay, and every counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) := by
  hlo_run
  · exact fun _ => ⟨trivial, trivial, trivial, trivial, trivial, trivial⟩
  · exact funext fun x : GSem Cert.ReferenceIdeal.nD Cert.ReferenceIdeal.τ Cert.ReferenceIdeal.sig =>
      ((by decide : ∀ s : SemLoc Cert.ReferenceIdeal.sig, False) x.2).elim

/-- On finite attention, camera and label arrays the kernel and the reference end with one loss. -/
theorem value_claim [hPre : Cert.Pre_finite.Facts] : Cert.algebraic_KernelIdeal_ReferenceIdeal_pre_finite := by
  intro m g m' g' hp ha
  refine ⟨fun c => Cert.KernelIdeal.Gen.W5 m g c (Proc.devRef .tc Cert.KernelIdeal.main_v9), Cert.KRun.run m g, ?_⟩
  refine (θ_run _ _ _).mono (fun r h c => ?_) (Cert.RRun.run m' g')
  obtain ⟨k0, k1, k2, k3, k4, k5⟩ := Cert.RRun.args (StableHlo.launchContents m' c)
  refine ⟨?_, (h c _).trans k0, (h c _).trans k1, (h c _).trans k2, (h c _).trans k3, (h c _).trans k4, (h c _).trans k5⟩
  obtain ⟨a0, a1, a2, a3, a4, a5⟩ := ha c
  obtain ⟨py, po, pa⟩ := Cert.Finite.parts _ _ _ _ _ _ (hp c)
  have hatt : ∀ a q p, Cert.KMask.attOf m c a q p ≠ ⊤ ∧ Cert.KMask.attOf m c a q p ≠ ⊥ := fun a q p => pa (ix3 a q p)
  have hood : ∀ b p, Cert.KMask.oodOf m c b p ≠ ⊤ ∧ Cert.KMask.oodOf m c b p ≠ ⊥ := fun b p => po _
  have hy : ∀ b R C, Cert.KLoss.labelOf m c b R C ≠ ⊤ ∧ Cert.KLoss.labelOf m c b R C ≠ ⊥ := fun b R C => py b R C
  have e1 : Cert.RValue.labelV (StableHlo.launchContents m' c (Proc.devRef .tc Cert.ReferenceIdeal.main_arg1)) = Cert.KLoss.labelOf m c :=
    congrArg Cert.RValue.labelV a1
  have e3 : Cert.RValue.oodV (StableHlo.launchContents m' c (Proc.devRef .tc Cert.ReferenceIdeal.main_arg3)) = Cert.KMask.oodOf m c :=
    congrArg Cert.RValue.oodV a3
  have e4 : Cert.RHeads.attV (StableHlo.launchContents m' c (Proc.devRef .tc Cert.ReferenceIdeal.main_arg4)) = Cert.KMask.attOf m c :=
    congrArg Cert.RHeads.attV a4
  have v := Cert.RValue.value (StableHlo.launchContents m' c) (by rw [e4]; exact hatt)
  rw [e1, e3, e4] at v
  exact (h c _).trans (v.trans (Cert.KLoss.v9_eq m g c hatt hood hy).symm)

/-- All the claims stated. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, value_claim⟩

end Cert.Proof

end
